-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Fused (m : (ℓ : Loc Cert.Fused.nD Cert.Fused.τ Cert.Fused.sig) → Buf (Elt Bits) ℓ) : Prop :=
  True

def Pre_FusedIdeal (m : (ℓ : Loc Cert.FusedIdeal.nD Cert.FusedIdeal.τ Cert.FusedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Fused [hFused : Cert.Fused.Facts] : Prop :=
  ∀ (m : (ℓ : Loc Cert.Fused.nD Cert.Fused.τ Cert.Fused.sig) → Buf (Elt Bits) ℓ) (g : Dev Cert.Fused.nD → PrngReg), Pre_Fused m →
    θ_run (Cert.Fused.defs (F := Bits)) (onTc (τ := Cert.Fused.τ) (Cert.Fused.main (F := Bits))) ⟨m, fun _ => 0, g⟩ (fun r => (∀ c : Dev Cert.Fused.nD,
      r.2.mem ((c.tc : Thread Cert.Fused.nD Cert.Fused.τ).loc Cert.Fused.main_arg0) = m ((c.tc : Thread Cert.Fused.nD Cert.Fused.τ).loc Cert.Fused.main_arg0)
      ∧ r.2.mem ((c.tc : Thread Cert.Fused.nD Cert.Fused.τ).loc Cert.Fused.main_arg1) = m ((c.tc : Thread Cert.Fused.nD Cert.Fused.τ).loc Cert.Fused.main_arg1))
      ∧ r.2.sem = fun _ => 0)

def quiescent_FusedIdeal [hFusedIdeal : Cert.FusedIdeal.Facts] : Prop :=
  ∀ (m : (ℓ : Loc Cert.FusedIdeal.nD Cert.FusedIdeal.τ Cert.FusedIdeal.sig) → Buf (Elt Ideal) ℓ) (g : Dev Cert.FusedIdeal.nD → PrngReg), Pre_FusedIdeal m →
    θ_run (Cert.FusedIdeal.defs (F := Ideal)) (onTc (τ := Cert.FusedIdeal.τ) (Cert.FusedIdeal.main (F := Ideal))) ⟨m, fun _ => 0, g⟩ (fun r => (∀ c : Dev Cert.FusedIdeal.nD,
      r.2.mem ((c.tc : Thread Cert.FusedIdeal.nD Cert.FusedIdeal.τ).loc Cert.FusedIdeal.main_arg0) = m ((c.tc : Thread Cert.FusedIdeal.nD Cert.FusedIdeal.τ).loc Cert.FusedIdeal.main_arg0)
      ∧ r.2.mem ((c.tc : Thread Cert.FusedIdeal.nD Cert.FusedIdeal.τ).loc Cert.FusedIdeal.main_arg1) = m ((c.tc : Thread Cert.FusedIdeal.nD Cert.FusedIdeal.τ).loc Cert.FusedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Fused_FusedIdeal : Prop :=
  True

def algebraic_FusedIdeal_ReferenceIdeal [hFusedIdeal : Cert.FusedIdeal.Facts] [hReferenceIdeal : Cert.ReferenceIdeal.Facts] : Prop :=
  ∀ (m : (ℓ : Loc Cert.FusedIdeal.nD Cert.FusedIdeal.τ Cert.FusedIdeal.sig) → Buf (Elt Ideal) ℓ) (g : Dev Cert.FusedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_FusedIdeal m →
    (∀ c : Dev Cert.FusedIdeal.nD,
      m' ((c.tc : Thread Cert.ReferenceIdeal.nD Cert.ReferenceIdeal.τ).loc Cert.ReferenceIdeal.main_arg0) = m ((c.tc : Thread Cert.FusedIdeal.nD Cert.FusedIdeal.τ).loc Cert.FusedIdeal.main_arg0)
      ∧ m' ((c.tc : Thread Cert.ReferenceIdeal.nD Cert.ReferenceIdeal.τ).loc Cert.ReferenceIdeal.main_arg1) = m ((c.tc : Thread Cert.FusedIdeal.nD Cert.FusedIdeal.τ).loc Cert.FusedIdeal.main_arg1)) →
    ∃ (v0 : (c : Dev Cert.FusedIdeal.nD) → Buf (Elt Ideal) ((c.tc : Thread Cert.FusedIdeal.nD Cert.FusedIdeal.τ).loc Cert.FusedIdeal.main_v2_0)) (v1 : (c : Dev Cert.FusedIdeal.nD) → Buf (Elt Ideal) ((c.tc : Thread Cert.FusedIdeal.nD Cert.FusedIdeal.τ).loc Cert.FusedIdeal.main_v3)) (v2 : (c : Dev Cert.FusedIdeal.nD) → Buf (Elt Ideal) ((c.tc : Thread Cert.FusedIdeal.nD Cert.FusedIdeal.τ).loc Cert.FusedIdeal.main_v4)),
      θ_run (Cert.FusedIdeal.defs (F := Ideal)) (onTc (τ := Cert.FusedIdeal.τ) (Cert.FusedIdeal.main (F := Ideal))) ⟨m, fun _ => 0, g⟩ (fun r => ∀ c : Dev Cert.FusedIdeal.nD,
          r.2.mem ((c.tc : Thread Cert.FusedIdeal.nD Cert.FusedIdeal.τ).loc Cert.FusedIdeal.main_v2_0) = v0 c
          ∧ r.2.mem ((c.tc : Thread Cert.FusedIdeal.nD Cert.FusedIdeal.τ).loc Cert.FusedIdeal.main_v3) = v1 c
          ∧ r.2.mem ((c.tc : Thread Cert.FusedIdeal.nD Cert.FusedIdeal.τ).loc Cert.FusedIdeal.main_v4) = v2 c
          ∧ r.2.mem ((c.tc : Thread Cert.FusedIdeal.nD Cert.FusedIdeal.τ).loc Cert.FusedIdeal.main_arg0) = m ((c.tc : Thread Cert.FusedIdeal.nD Cert.FusedIdeal.τ).loc Cert.FusedIdeal.main_arg0)
          ∧ r.2.mem ((c.tc : Thread Cert.FusedIdeal.nD Cert.FusedIdeal.τ).loc Cert.FusedIdeal.main_arg1) = m ((c.tc : Thread Cert.FusedIdeal.nD Cert.FusedIdeal.τ).loc Cert.FusedIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hFused : Cert.Fused.Facts) (hFusedIdeal : Cert.FusedIdeal.Facts),
    quiescent_Kernel (hKernel := hKernel)
    ∧ quiescent_KernelIdeal (hKernelIdeal := hKernelIdeal)
    ∧ quiescent_ReferenceIdeal (hReferenceIdeal := hReferenceIdeal)
    ∧ quiescent_Fused (hFused := hFused)
    ∧ quiescent_FusedIdeal (hFusedIdeal := hFusedIdeal)
    ∧ preserves_Kernel_KernelIdeal
    ∧ algebraic_KernelIdeal_ReferenceIdeal (hKernelIdeal := hKernelIdeal) (hReferenceIdeal := hReferenceIdeal)
    ∧ preserves_Fused_FusedIdeal
    ∧ algebraic_FusedIdeal_ReferenceIdeal (hFusedIdeal := hFusedIdeal) (hReferenceIdeal := hReferenceIdeal)
-- ==== Kernel.lean ====
abbrev S1024x8x256 : Shape := ⟨3, ![1024, 8, 256]⟩
abbrev S8x32x32 : Shape := ⟨3, ![8, 32, 32]⟩
abbrev S8x1024 : Shape := ⟨2, ![8, 1024]⟩
abbrev S512x256 : Shape := ⟨2, ![512, 256]⟩
abbrev S1x512 : Shape := ⟨2, ![1, 512]⟩
abbrev S512x3x1024 : Shape := ⟨3, ![512, 3, 1024]⟩
abbrev S1024 : Shape := ⟨1, ![1024]⟩
abbrev S3x1024 : Shape := ⟨2, ![3, 1024]⟩
abbrev S_ : Shape := ⟨0, ![]⟩
abbrev S1x1024 : Shape := ⟨2, ![1, 1024]⟩
abbrev S16 : Shape := ⟨1, ![16]⟩
abbrev S1x16 : Shape := ⟨2, ![1, 16]⟩
abbrev S1x3x1024 : Shape := ⟨3, ![1, 3, 1024]⟩
abbrev S512 : Shape := ⟨1, ![512]⟩

abbrev nBuf : Table → Nat
  | .hbm => 8
  | .local .tc .vmem => 2
  | .local .scVector .vmem => 2
  | _ => 0

abbrev bufTy : (tb : Table) → Fin (nBuf tb) → BufTy
  | .hbm, ⟨0, _⟩ => ⟨S1024x8x256, .f32⟩
  | .hbm, ⟨1, _⟩ => ⟨S8x32x32, .i1⟩
  | .hbm, ⟨2, _⟩ => ⟨S8x1024, .i1⟩
  | .hbm, ⟨3, _⟩ => ⟨S8x1024, .f32⟩
  | .hbm, ⟨4, _⟩ => ⟨S512x256, .f32⟩
  | .hbm, ⟨5, _⟩ => ⟨S1x512, .i32⟩
  | .hbm, ⟨6, _⟩ => ⟨S512x3x1024, .f32⟩
  | .hbm, ⟨7, _⟩ => ⟨S512, .i32⟩
  | .local .tc .vmem, ⟨0, _⟩ => ⟨S512x256, .f32⟩
  | .local .tc .vmem, ⟨1, _⟩ => ⟨S1x512, .i32⟩
  | .local .scVector .vmem, ⟨0, _⟩ => ⟨S1024, .f32⟩
  | .local .scVector .vmem, ⟨1, _⟩ => ⟨S3x1024, .f32⟩
  | _, _ => ⟨S1024x8x256, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => true
  | ⟨1, _⟩ => true
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 3, rfl⟩
abbrev main_v3_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_598_r0 : BitVec 32 := 0#32
  ![v18.toNat, 0]
def k1_off2 (i : grid1.Coords) (c0_i32_451 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v1043 : BitVec 32 := Scalar.muli v1 c16_i32
  let v1044 : BitVec 32 := Scalar.addi v1043 c0_i32_451
  let c0_i32_452 : BitVec 32 := 0#32
  let c0_i32_453 : BitVec 32 := 0#32
  ![v1044.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x8x256 : Shape := ⟨3, ![1024, 8, 256]⟩
abbrev S8x32x32 : Shape := ⟨3, ![8, 32, 32]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S512x256 : Shape := ⟨2, ![512, 256]⟩
abbrev S8 : Shape := ⟨1, ![8]⟩
abbrev S8x64 : Shape := ⟨2, ![8, 64]⟩
abbrev S512 : Shape := ⟨1, ![512]⟩
abbrev S512x1 : Shape := ⟨2, ![512, 1]⟩
abbrev S512x32x32 : Shape := ⟨3, ![512, 32, 32]⟩
abbrev S512x3x32x32 : Shape := ⟨4, ![512, 3, 32, 32]⟩
abbrev S512x1x32x32 : Shape := ⟨4, ![512, 1, 32, 32]⟩
abbrev S512x3x1024 : Shape := ⟨3, ![512, 3, 1024]⟩

abbrev nBuf : Space → Nat
  | .hbm => 634
  | .vmem => 0
  | .smem => 0
  | _ => 0

abbrev hbmTy0_0 (i : Nat) : BufTy := match i % 128 with
  | 0 => ⟨S1024x8x256, .f32⟩
  | 1 => ⟨S8x32x32, .i1⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S3, .i64⟩
  | 17 => ⟨S_, .i64⟩
  | 18 => ⟨S3, .i64⟩
  | 19 => ⟨S3, .i64⟩
  | 20 => ⟨S_, .i64⟩
  | 21 => ⟨S3, .i64⟩
  | 22 => ⟨S3, .i64⟩
  | 23 => ⟨S3, .i32⟩
  | 24 => ⟨S3, .i32⟩
  | 25 => ⟨S_, .i32⟩
  | 26 => ⟨S_, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S1024x8x256, .f32⟩

abbrev hbmTy0_1 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S3x1, .i32⟩
  | 120 => ⟨S3x1, .i32⟩
  | 121 => ⟨S3x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S1024x8x256, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S512x256, .i64⟩
  | 5 => ⟨S512x256, .i64⟩
  | 6 => ⟨S_, .i64⟩
  | 7 => ⟨S512x256, .i64⟩
  | 8 => ⟨S512x256, .i64⟩
  | 9 => ⟨S_, .i64⟩
  | 10 => ⟨S512x256, .i64⟩
  | 11 => ⟨S512x256, .i64⟩
  | 12 => ⟨S512x256, .i64⟩
  | 13 => ⟨S_, .i64⟩
  | 14 => ⟨S512x256, .i64⟩
  | 15 => ⟨S512x256, .i64⟩
  | 16 => ⟨S512x256, .i32⟩
  | 17 => ⟨S512x256, .i32⟩
  | 18 => ⟨S_, .i32⟩
  | 19 => ⟨S_, .i32⟩
  | 20 => ⟨S_, .i32⟩
  | 21 => ⟨S512x256, .i32⟩
  | 22 => ⟨S512x256, .i32⟩
  | 23 => ⟨S512x256, .i32⟩
  | 24 => ⟨S512x256, .i32⟩
  | 25 => ⟨S512x256, .i32⟩
  | 26 => ⟨S_, .i32⟩
  | 27 => ⟨S512x256, .i32⟩
  | 28 => ⟨S512x256, .i32⟩
  | 29 => ⟨S_, .i32⟩
  | 30 => ⟨S512x256, .i32⟩
  | 31 => ⟨S512x256, .i32⟩
  | 32 => ⟨S512x256, .i32⟩
  | 33 => ⟨S512x256, .i32⟩
  | 34 => ⟨S512x256, .i32⟩
  | 35 => ⟨S_, .i32⟩
  | 36 => ⟨S512x256, .i32⟩
  | 37 => ⟨S512x256, .i32⟩
  | 38 => ⟨S_, .i32⟩
  | 39 => ⟨S512x256, .i32⟩
  | 40 => ⟨S512x256, .i32⟩
  | 41 => ⟨S512x256, .i32⟩
  | 42 => ⟨S512x256, .i32⟩
  | 43 => ⟨S512x256, .i32⟩
  | 44 => ⟨S_, .i32⟩
  | 45 => ⟨S512x256, .i32⟩
  | 46 => ⟨S512x256, .i32⟩
  | 47 => ⟨S_, .i32⟩
  | 48 => ⟨S512x256, .i32⟩
  | 49 => ⟨S512x256, .i32⟩
  | 50 => ⟨S512x256, .i32⟩
  | 51 => ⟨S512x256, .i32⟩
  | 52 => ⟨S512x256, .i32⟩
  | 53 => ⟨S_, .i32⟩
  | 54 => ⟨S512x256, .i32⟩
  | 55 => ⟨S512x256, .i32⟩
  | 56 => ⟨S_, .i32⟩
  | 57 => ⟨S512x256, .i32⟩
  | 58 => ⟨S512x256, .i32⟩
  | 59 => ⟨S512x256, .i32⟩
  | 60 => ⟨S512x256, .i32⟩
  | 61 => ⟨S512x256, .i32⟩
  | 62 => ⟨S512x256, .i32⟩
  | 63 => ⟨S512x256, .i32⟩
  | 64 => ⟨S512x256, .i32⟩
  | 65 => ⟨S_, .i32⟩
  | 66 => ⟨S512x256, .i32⟩
  | 67 => ⟨S512x256, .i32⟩
  | 68 => ⟨S512x256, .i32⟩
  | 69 => ⟨S_, .i32⟩
  | 70 => ⟨S512x256, .i32⟩
  | 71 => ⟨S512x256, .i32⟩
  | 72 => ⟨S_, .i32⟩
  | 73 => ⟨S512x256, .i32⟩
  | 74 => ⟨S512x256, .i32⟩
  | 75 => ⟨S512x256, .i32⟩
  | 76 => ⟨S512x256, .i32⟩
  | 77 => ⟨S512x256, .i32⟩
  | 78 => ⟨S_, .i32⟩
  | 79 => ⟨S512x256, .i32⟩
  | 80 => ⟨S512x256, .i32⟩
  | 81 => ⟨S_, .i32⟩
  | 82 => ⟨S512x256, .i32⟩
  | 83 => ⟨S512x256, .i32⟩
  | 84 => ⟨S512x256, .i32⟩
  | 85 => ⟨S512x256, .i32⟩
  | 86 => ⟨S512x256, .i32⟩
  | 87 => ⟨S_, .i32⟩
  | 88 => ⟨S512x256, .i32⟩
  | 89 => ⟨S512x256, .i32⟩
  | 90 => ⟨S_, .i32⟩
  | 91 => ⟨S512x256, .i32⟩
  | 92 => ⟨S512x256, .i32⟩
  | 93 => ⟨S512x256, .i32⟩
  | 94 => ⟨S512x256, .i32⟩
  | 95 => ⟨S512x256, .i32⟩
  | 96 => ⟨S_, .i32⟩
  | 97 => ⟨S512x256, .i32⟩
  | 98 => ⟨S512x256, .i32⟩
  | 99 => ⟨S_, .i32⟩
  | 100 => ⟨S512x256, .i32⟩
  | 101 => ⟨S512x256, .i32⟩
  | 102 => ⟨S512x256, .i32⟩
  | 103 => ⟨S512x256, .i32⟩
  | 104 => ⟨S512x256, .i32⟩
  | 105 => ⟨S512x256, .i32⟩
  | 106 => ⟨S512x256, .i32⟩
  | 107 => ⟨S512x256, .i32⟩
  | 108 => ⟨S_, .i32⟩
  | 109 => ⟨S512x256, .i32⟩
  | 110 => ⟨S512x256, .i32⟩
  | 111 => ⟨S512x256, .i32⟩
  | 112 => ⟨S_, .i32⟩
  | 113 => ⟨S512x256, .i32⟩
  | 114 => ⟨S512x256, .i32⟩
  | 115 => ⟨S_, .i32⟩
  | 116 => ⟨S512x256, .i32⟩
  | 117 => ⟨S512x256, .i32⟩
  | 118 => ⟨S512x256, .i32⟩
  | 119 => ⟨S512x256, .i32⟩
  | 120 => ⟨S512x256, .i32⟩
  | 121 => ⟨S_, .i32⟩
  | 122 => ⟨S512x256, .i32⟩
  | 123 => ⟨S512x256, .i32⟩
  | 124 => ⟨S_, .i32⟩
  | 125 => ⟨S512x256, .i32⟩
  | 126 => ⟨S512x256, .i32⟩
  | 127 => ⟨S512x256, .i32⟩
  | _ => ⟨S1024x8x256, .f32⟩

abbrev hbmTy0_3 (i : Nat) : BufTy := match i % 128 with
  | 0 => ⟨S512x256, .i32⟩
  | 1 => ⟨S512x256, .i32⟩
  | 2 => ⟨S_, .i32⟩
  | 3 => ⟨S512x256, .i32⟩
  | 4 => ⟨S512x256, .i32⟩
  | 5 => ⟨S_, .i32⟩
  | 6 => ⟨S512x256, .i32⟩
  | 7 => ⟨S512x256, .i32⟩
  | 8 => ⟨S512x256, .i32⟩
  | 9 => ⟨S512x256, .i32⟩
  | 10 => ⟨S512x256, .i32⟩
  | 11 => ⟨S_, .i32⟩
  | 12 => ⟨S512x256, .i32⟩
  | 13 => ⟨S512x256, .i32⟩
  | 14 => ⟨S_, .i32⟩
  | 15 => ⟨S512x256, .i32⟩
  | 16 => ⟨S512x256, .i32⟩
  | 17 => ⟨S512x256, .i32⟩
  | 18 => ⟨S512x256, .i32⟩
  | 19 => ⟨S512x256, .i32⟩
  | 20 => ⟨S512x256, .i32⟩
  | 21 => ⟨S512x256, .i32⟩
  | 22 => ⟨S512x256, .i32⟩
  | 23 => ⟨S_, .i32⟩
  | 24 => ⟨S512x256, .i32⟩
  | 25 => ⟨S512x256, .i32⟩
  | 26 => ⟨S512x256, .i32⟩
  | 27 => ⟨S_, .i32⟩
  | 28 => ⟨S512x256, .i32⟩
  | 29 => ⟨S512x256, .i32⟩
  | 30 => ⟨S_, .i32⟩
  | 31 => ⟨S512x256, .i32⟩
  | 32 => ⟨S512x256, .i32⟩
  | 33 => ⟨S512x256, .i32⟩
  | 34 => ⟨S512x256, .i32⟩
  | 35 => ⟨S512x256, .i32⟩
  | 36 => ⟨S_, .i32⟩
  | 37 => ⟨S512x256, .i32⟩
  | 38 => ⟨S512x256, .i32⟩
  | 39 => ⟨S_, .i32⟩
  | 40 => ⟨S512x256, .i32⟩
  | 41 => ⟨S512x256, .i32⟩
  | 42 => ⟨S512x256, .i32⟩
  | 43 => ⟨S512x256, .i32⟩
  | 44 => ⟨S512x256, .i32⟩
  | 45 => ⟨S_, .i32⟩
  | 46 => ⟨S512x256, .i32⟩
  | 47 => ⟨S512x256, .i32⟩
  | 48 => ⟨S_, .i32⟩
  | 49 => ⟨S512x256, .i32⟩
  | 50 => ⟨S512x256, .i32⟩
  | 51 => ⟨S512x256, .i32⟩
  | 52 => ⟨S512x256, .i32⟩
  | 53 => ⟨S512x256, .i32⟩
  | 54 => ⟨S_, .i32⟩
  | 55 => ⟨S512x256, .i32⟩
  | 56 => ⟨S512x256, .i32⟩
  | 57 => ⟨S_, .i32⟩
  | 58 => ⟨S512x256, .i32⟩
  | 59 => ⟨S512x256, .i32⟩
  | 60 => ⟨S512x256, .i32⟩
  | 61 => ⟨S512x256, .i32⟩
  | 62 => ⟨S512x256, .i32⟩
  | 63 => ⟨S512x256, .i32⟩
  | 64 => ⟨S512x256, .i32⟩
  | 65 => ⟨S512x256, .i32⟩
  | 66 => ⟨S_, .i32⟩
  | 67 => ⟨S512x256, .i32⟩
  | 68 => ⟨S512x256, .i32⟩
  | 69 => ⟨S512x256, .i32⟩
  | 70 => ⟨S_, .i32⟩
  | 71 => ⟨S512x256, .i32⟩
  | 72 => ⟨S512x256, .i32⟩
  | 73 => ⟨S_, .i32⟩
  | 74 => ⟨S512x256, .i32⟩
  | 75 => ⟨S512x256, .i32⟩
  | 76 => ⟨S512x256, .i32⟩
  | 77 => ⟨S512x256, .i32⟩
  | 78 => ⟨S512x256, .i32⟩
  | 79 => ⟨S_, .i32⟩
  | 80 => ⟨S512x256, .i32⟩
  | 81 => ⟨S512x256, .i32⟩
  | 82 => ⟨S_, .i32⟩
  | 83 => ⟨S512x256, .i32⟩
  | 84 => ⟨S512x256, .i32⟩
  | 85 => ⟨S512x256, .i32⟩
  | 86 => ⟨S512x256, .i32⟩
  | 87 => ⟨S512x256, .i32⟩
  | 88 => ⟨S_, .i32⟩
  | 89 => ⟨S512x256, .i32⟩
  | 90 => ⟨S512x256, .i32⟩
  | 91 => ⟨S_, .i32⟩
  | 92 => ⟨S512x256, .i32⟩
  | 93 => ⟨S512x256, .i32⟩
  | 94 => ⟨S512x256, .i32⟩
  | 95 => ⟨S512x256, .i32⟩
  | 96 => ⟨S512x256, .i32⟩
  | 97 => ⟨S_, .i32⟩
  | 98 => ⟨S512x256, .i32⟩
  | 99 => ⟨S512x256, .i32⟩
  | 100 => ⟨S_, .i32⟩
  | 101 => ⟨S512x256, .i32⟩
  | 102 => ⟨S512x256, .i32⟩
  | 103 => ⟨S512x256, .i32⟩
  | 104 => ⟨S512x256, .i32⟩
  | 105 => ⟨S512x256, .i32⟩
  | 106 => ⟨S512x256, .i32⟩
  | 107 => ⟨S512x256, .i32⟩
  | 108 => ⟨S512x256, .i32⟩
  | 109 => ⟨S_, .i32⟩
  | 110 => ⟨S512x256, .i32⟩
  | 111 => ⟨S512x256, .i32⟩
  | 112 => ⟨S512x256, .i32⟩
  | 113 => ⟨S_, .i32⟩
  | 114 => ⟨S512x256, .i32⟩
  | 115 => ⟨S512x256, .i32⟩
  | 116 => ⟨S_, .i32⟩
  | 117 => ⟨S512x256, .i32⟩
  | 118 => ⟨S512x256, .i32⟩
  | 119 => ⟨S512x256, .f32⟩
  | 120 => ⟨S_, .f32⟩
  | 121 => ⟨S512x256, .f32⟩
  | 122 => ⟨S512x256, .f32⟩
  | 123 => ⟨S_, .f32⟩
  | 124 => ⟨S512x256, .f32⟩
  | 125 => ⟨S512x256, .f32⟩
  | 126 => ⟨S_, .f32⟩
  | 127 => ⟨S512x256, .f32⟩
  | _ => ⟨S1024x8x256, .f32⟩

abbrev hbmTy0_4 (i : Nat) : BufTy := match i % 128 with
  | 0 => ⟨S512x256, .f32⟩
  | 1 => ⟨S_, .f32⟩
  | 2 => ⟨S512x256, .f32⟩
  | 3 => ⟨S512x256, .f32⟩
  | 4 => ⟨S512x256, .f32⟩
  | 5 => ⟨S512x256, .f32⟩
  | 6 => ⟨S512x256, .f32⟩
  | 7 => ⟨S512x256, .f32⟩
  | 8 => ⟨S_, .f32⟩
  | 9 => ⟨S512x256, .f32⟩
  | 10 => ⟨S512x256, .i1⟩
  | 11 => ⟨S_, .f32⟩
  | 12 => ⟨S512x256, .f32⟩
  | 13 => ⟨S512x256, .f32⟩
  | 14 => ⟨S512x256, .f32⟩
  | 15 => ⟨S_, .f32⟩
  | 16 => ⟨S512x256, .f32⟩
  | 17 => ⟨S512x256, .f32⟩
  | 18 => ⟨S512x256, .f32⟩
  | 19 => ⟨S_, .f32⟩
  | 20 => ⟨S_, .f32⟩
  | 21 => ⟨S512x256, .f32⟩
  | 22 => ⟨S512x256, .f32⟩
  | 23 => ⟨S512x256, .f32⟩
  | 24 => ⟨S_, .f32⟩
  | 25 => ⟨S_, .f32⟩
  | 26 => ⟨S512x256, .f32⟩
  | 27 => ⟨S512x256, .f32⟩
  | 28 => ⟨S512x256, .f32⟩
  | 29 => ⟨S512x256, .f32⟩
  | 30 => ⟨S512x256, .f32⟩
  | 31 => ⟨S512x256, .f32⟩
  | 32 => ⟨S512x256, .f32⟩
  | 33 => ⟨S_, .f32⟩
  | 34 => ⟨S_, .f32⟩
  | 35 => ⟨S512x256, .f32⟩
  | 36 => ⟨S512x256, .f32⟩
  | 37 => ⟨S512x256, .f32⟩
  | 38 => ⟨S512x256, .f32⟩
  | 39 => ⟨S512x256, .f32⟩
  | 40 => ⟨S512x256, .f32⟩
  | 41 => ⟨S_, .f32⟩
  | 42 => ⟨S_, .f32⟩
  | 43 => ⟨S512x256, .f32⟩
  | 44 => ⟨S512x256, .f32⟩
  | 45 => ⟨S512x256, .f32⟩
  | 46 => ⟨S512x256, .f32⟩
  | 47 => ⟨S512x256, .f32⟩
  | 48 => ⟨S512x256, .f32⟩
  | 49 => ⟨S_, .f32⟩
  | 50 => ⟨S_, .f32⟩
  | 51 => ⟨S512x256, .f32⟩
  | 52 => ⟨S512x256, .f32⟩
  | 53 => ⟨S512x256, .f32⟩
  | 54 => ⟨S512x256, .f32⟩
  | 55 => ⟨S512x256, .f32⟩
  | 56 => ⟨S512x256, .f32⟩
  | 57 => ⟨S_, .f32⟩
  | 58 => ⟨S_, .f32⟩
  | 59 => ⟨S512x256, .f32⟩
  | 60 => ⟨S512x256, .f32⟩
  | 61 => ⟨S512x256, .f32⟩
  | 62 => ⟨S512x256, .f32⟩
  | 63 => ⟨S512x256, .f32⟩
  | 64 => ⟨S512x256, .f32⟩
  | 65 => ⟨S_, .f32⟩
  | 66 => ⟨S_, .f32⟩
  | 67 => ⟨S512x256, .f32⟩
  | 68 => ⟨S512x256, .f32⟩
  | 69 => ⟨S512x256, .f32⟩
  | 70 => ⟨S512x256, .f32⟩
  | 71 => ⟨S512x256, .f32⟩
  | 72 => ⟨S512x256, .f32⟩
  | 73 => ⟨S_, .f32⟩
  | 74 => ⟨S_, .f32⟩
  | 75 => ⟨S512x256, .f32⟩
  | 76 => ⟨S512x256, .f32⟩
  | 77 => ⟨S512x256, .f32⟩
  | 78 => ⟨S512x256, .f32⟩
  | 79 => ⟨S512x256, .f32⟩
  | 80 => ⟨S512x256, .f32⟩
  | 81 => ⟨S_, .f32⟩
  | 82 => ⟨S_, .f32⟩
  | 83 => ⟨S512x256, .f32⟩
  | 84 => ⟨S512x256, .f32⟩
  | 85 => ⟨S512x256, .f32⟩
  | 86 => ⟨S512x256, .f32⟩
  | 87 => ⟨S512x256, .f32⟩
  | 88 => ⟨S512x256, .f32⟩
  | 89 => ⟨S512x256, .f32⟩
  | 90 => ⟨S_, .f32⟩
  | 91 => ⟨S512x256, .f32⟩
  | 92 => ⟨S512x256, .i1⟩
  | 93 => ⟨S_, .f32⟩
  | 94 => ⟨S512x256, .f32⟩
  | 95 => ⟨S512x256, .f32⟩
  | 96 => ⟨S512x256, .f32⟩
  | 97 => ⟨S512x256, .f32⟩
  | 98 => ⟨S_, .f32⟩
  | 99 => ⟨S512x256, .f32⟩
  | 100 => ⟨S512x256, .f32⟩
  | 101 => ⟨S8, .i32⟩
  | 102 => ⟨S8x64, .i32⟩
  | 103 => ⟨S512, .i32⟩
  | 104 => ⟨S_, .i32⟩
  | 105 => ⟨S512, .i32⟩
  | 106 => ⟨S512, .i1⟩
  | 107 => ⟨S_, .i32⟩
  | 108 => ⟨S512, .i32⟩
  | 109 => ⟨S512, .i32⟩
  | 110 => ⟨S512, .i32⟩
  | 111 => ⟨S512x1, .i32⟩
  | 112 => ⟨S512x32x32, .i1⟩
  | 113 => ⟨S_, .f32⟩
  | 114 => ⟨S512x3x32x32, .f32⟩
  | 115 => ⟨S512x1x32x32, .i1⟩
  | 116 => ⟨S_, .f32⟩
  | 117 => ⟨S_, .f32⟩
  | 118 => ⟨S512x3x32x32, .i1⟩
  | 119 => ⟨S512x3x32x32, .f32⟩
  | 120 => ⟨S512x3x32x32, .f32⟩
  | 121 => ⟨S512x3x1024, .f32⟩
  | _ => ⟨S1024x8x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x8x256, .f32⟩

abbrev bufTy : (tb : Table) → Fin (tcTables nBuf tb) → BufTy
  | .hbm, ⟨i, _⟩ => hbmTy i
  | _, _ => ⟨S1024x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_v14 : Ref sig .tc := ⟨.hbm, 256, rfl⟩
abbrev main_v15 : Ref sig .tc := ⟨.hbm, 257, rfl⟩
abbrev main_v16 : Ref sig .tc := ⟨.hbm, 258, rfl⟩
abbrev main_v17 : Ref sig .tc := ⟨.hbm, 259, rfl⟩
abbrev main_v18 : Ref sig .tc := ⟨.hbm, 260, rfl⟩
abbrev main_v19 : Ref sig .tc := ⟨.hbm, 261, rfl⟩
abbrev main_c_2 : Ref sig .tc := ⟨.hbm, 262, rfl⟩
abbrev main_v20 : Ref sig .tc := ⟨.hbm, 263, rfl⟩
abbrev main_v21 : Ref sig .tc := ⟨.hbm, 264, rfl⟩
abbrev main_c_3 : Ref sig .tc := ⟨.hbm, 265, rfl⟩
abbrev main_v22 : Ref sig .tc := ⟨.hbm, 266, rfl⟩
abbrev main_v23 : Ref sig .tc := ⟨.hbm, 267, rfl⟩
abbrev main_v24 : Ref sig .tc := ⟨.hbm, 268, rfl⟩
abbrev main_c_4 : Ref sig .tc := ⟨.hbm, 269, rfl⟩
abbrev main_v25 : Ref sig .tc := ⟨.hbm, 270, rfl⟩
abbrev main_v26 : Ref sig .tc := ⟨.hbm, 271, rfl⟩
abbrev main_v27 : Ref sig .tc := ⟨.hbm, 272, rfl⟩
abbrev main_v28 : Ref sig .tc := ⟨.hbm, 273, rfl⟩
abbrev main_call1_v0 : Ref sig .tc := ⟨.hbm, 274, rfl⟩
abbrev main_call1_c : Ref sig .tc := ⟨.hbm, 275, rfl⟩
abbrev main_call1_v1 : Ref sig .tc := ⟨.hbm, 276, rfl⟩
abbrev main_call1_v2 : Ref sig .tc := ⟨.hbm, 277, rfl⟩
abbrev main_call1_v3 : Ref sig .tc := ⟨.hbm, 278, rfl⟩
abbrev main_call1_v4 : Ref sig .tc := ⟨.hbm, 279, rfl⟩
abbrev main_call1_v5 : Ref sig .tc := ⟨.hbm, 280, rfl⟩
abbrev main_call1_v6 : Ref sig .tc := ⟨.hbm, 281, rfl⟩
abbrev main_call1_c_0 : Ref sig .tc := ⟨.hbm, 282, rfl⟩
abbrev main_call1_v7 : Ref sig .tc := ⟨.hbm, 283, rfl⟩
abbrev main_call1_v8 : Ref sig .tc := ⟨.hbm, 284, rfl⟩
abbrev main_call1_c_1 : Ref sig .tc := ⟨.hbm, 285, rfl⟩
abbrev main_call1_v9 : Ref sig .tc := ⟨.hbm, 286, rfl⟩
abbrev main_call1_v10 : Ref sig .tc := ⟨.hbm, 287, rfl⟩
abbrev main_call1_v11 : Ref sig .tc := ⟨.hbm, 288, rfl⟩
abbrev main_call1_v12 : Ref sig .tc := ⟨.hbm, 289, rfl⟩
abbrev main_call1_v13 : Ref sig .tc := ⟨.hbm, 290, rfl⟩
abbrev main_call1_c_2 : Ref sig .tc := ⟨.hbm, 291, rfl⟩
abbrev main_call1_v14 : Ref sig .tc := ⟨.hbm, 292, rfl⟩
abbrev main_call1_v15 : Ref sig .tc := ⟨.hbm, 293, rfl⟩
abbrev main_call1_c_3 : Ref sig .tc := ⟨.hbm, 294, rfl⟩
abbrev main_call1_v16 : Ref sig .tc := ⟨.hbm, 295, rfl⟩
abbrev main_call1_v17 : Ref sig .tc := ⟨.hbm, 296, rfl⟩
abbrev main_call1_v18 : Ref sig .tc := ⟨.hbm, 297, rfl⟩
abbrev main_call1_v19 : Ref sig .tc := ⟨.hbm, 298, rfl⟩
abbrev main_call1_v20 : Ref sig .tc := ⟨.hbm, 299, rfl⟩
abbrev main_call1_c_4 : Ref sig .tc := ⟨.hbm, 300, rfl⟩
abbrev main_call1_v21 : Ref sig .tc := ⟨.hbm, 301, rfl⟩
abbrev main_call1_v22 : Ref sig .tc := ⟨.hbm, 302, rfl⟩
abbrev main_call1_c_5 : Ref sig .tc := ⟨.hbm, 303, rfl⟩
abbrev main_call1_v23 : Ref sig .tc := ⟨.hbm, 304, rfl⟩
abbrev main_call1_v24 : Ref sig .tc := ⟨.hbm, 305, rfl⟩
abbrev main_call1_v25 : Ref sig .tc := ⟨.hbm, 306, rfl⟩
abbrev main_call1_v26 : Ref sig .tc := ⟨.hbm, 307, rfl⟩
abbrev main_call1_v27 : Ref sig .tc := ⟨.hbm, 308, rfl⟩
abbrev main_call1_c_6 : Ref sig .tc := ⟨.hbm, 309, rfl⟩
abbrev main_call1_v28 : Ref sig .tc := ⟨.hbm, 310, rfl⟩
abbrev main_call1_v29 : Ref sig .tc := ⟨.hbm, 311, rfl⟩
abbrev main_call1_c_7 : Ref sig .tc := ⟨.hbm, 312, rfl⟩
abbrev main_call1_v30 : Ref sig .tc := ⟨.hbm, 313, rfl⟩
abbrev main_call1_v31 : Ref sig .tc := ⟨.hbm, 314, rfl⟩
abbrev main_call1_v32 : Ref sig .tc := ⟨.hbm, 315, rfl⟩
abbrev main_call1_v33 : Ref sig .tc := ⟨.hbm, 316, rfl⟩
abbrev main_call1_v34 : Ref sig .tc := ⟨.hbm, 317, rfl⟩
abbrev main_call1_v35 : Ref sig .tc := ⟨.hbm, 318, rfl⟩
abbrev main_call1_v36 : Ref sig .tc := ⟨.hbm, 319, rfl⟩
abbrev main_call1_v37 : Ref sig .tc := ⟨.hbm, 320, rfl⟩
abbrev main_call1_c_8 : Ref sig .tc := ⟨.hbm, 321, rfl⟩
abbrev main_call1_v38 : Ref sig .tc := ⟨.hbm, 322, rfl⟩
abbrev main_call1_v39 : Ref sig .tc := ⟨.hbm, 323, rfl⟩
abbrev main_call1_v40 : Ref sig .tc := ⟨.hbm, 324, rfl⟩
abbrev main_call1_c_9 : Ref sig .tc := ⟨.hbm, 325, rfl⟩
abbrev main_call1_v41 : Ref sig .tc := ⟨.hbm, 326, rfl⟩
abbrev main_call1_v42 : Ref sig .tc := ⟨.hbm, 327, rfl⟩
abbrev main_call1_c_10 : Ref sig .tc := ⟨.hbm, 328, rfl⟩
abbrev main_call1_v43 : Ref sig .tc := ⟨.hbm, 329, rfl⟩
abbrev main_call1_v44 : Ref sig .tc := ⟨.hbm, 330, rfl⟩
abbrev main_call1_v45 : Ref sig .tc := ⟨.hbm, 331, rfl⟩
abbrev main_call1_v46 : Ref sig .tc := ⟨.hbm, 332, rfl⟩
abbrev main_call1_v47 : Ref sig .tc := ⟨.hbm, 333, rfl⟩
abbrev main_call1_c_11 : Ref sig .tc := ⟨.hbm, 334, rfl⟩
abbrev main_call1_v48 : Ref sig .tc := ⟨.hbm, 335, rfl⟩
abbrev main_call1_v49 : Ref sig .tc := ⟨.hbm, 336, rfl⟩
abbrev main_call1_c_12 : Ref sig .tc := ⟨.hbm, 337, rfl⟩
abbrev main_call1_v50 : Ref sig .tc := ⟨.hbm, 338, rfl⟩
abbrev main_call1_v51 : Ref sig .tc := ⟨.hbm, 339, rfl⟩
abbrev main_call1_v52 : Ref sig .tc := ⟨.hbm, 340, rfl⟩
abbrev main_call1_v53 : Ref sig .tc := ⟨.hbm, 341, rfl⟩
abbrev main_call1_v54 : Ref sig .tc := ⟨.hbm, 342, rfl⟩
abbrev main_call1_c_13 : Ref sig .tc := ⟨.hbm, 343, rfl⟩
abbrev main_call1_v55 : Ref sig .tc := ⟨.hbm, 344, rfl⟩
abbrev main_call1_v56 : Ref sig .tc := ⟨.hbm, 345, rfl⟩
abbrev main_call1_c_14 : Ref sig .tc := ⟨.hbm, 346, rfl⟩
abbrev main_call1_v57 : Ref sig .tc := ⟨.hbm, 347, rfl⟩
abbrev main_call1_v58 : Ref sig .tc := ⟨.hbm, 348, rfl⟩
abbrev main_call1_v59 : Ref sig .tc := ⟨.hbm, 349, rfl⟩
abbrev main_call1_v60 : Ref sig .tc := ⟨.hbm, 350, rfl⟩
abbrev main_call1_v61 : Ref sig .tc := ⟨.hbm, 351, rfl⟩
abbrev main_call1_c_15 : Ref sig .tc := ⟨.hbm, 352, rfl⟩
abbrev main_call1_v62 : Ref sig .tc := ⟨.hbm, 353, rfl⟩
abbrev main_call1_v63 : Ref sig .tc := ⟨.hbm, 354, rfl⟩
abbrev main_call1_c_16 : Ref sig .tc := ⟨.hbm, 355, rfl⟩
abbrev main_call1_v64 : Ref sig .tc := ⟨.hbm, 356, rfl⟩
abbrev main_call1_v65 : Ref sig .tc := ⟨.hbm, 357, rfl⟩
abbrev main_call1_v66 : Ref sig .tc := ⟨.hbm, 358, rfl⟩
abbrev main_call1_v67 : Ref sig .tc := ⟨.hbm, 359, rfl⟩
abbrev main_call1_v68 : Ref sig .tc := ⟨.hbm, 360, rfl⟩
abbrev main_call1_v69 : Ref sig .tc := ⟨.hbm, 361, rfl⟩
abbrev main_call1_v70 : Ref sig .tc := ⟨.hbm, 362, rfl⟩
abbrev main_call1_v71 : Ref sig .tc := ⟨.hbm, 363, rfl⟩
abbrev main_call1_c_17 : Ref sig .tc := ⟨.hbm, 364, rfl⟩
abbrev main_call1_v72 : Ref sig .tc := ⟨.hbm, 365, rfl⟩
abbrev main_call1_v73 : Ref sig .tc := ⟨.hbm, 366, rfl⟩
abbrev main_call1_v74 : Ref sig .tc := ⟨.hbm, 367, rfl⟩
abbrev main_call1_c_18 : Ref sig .tc := ⟨.hbm, 368, rfl⟩
abbrev main_call1_v75 : Ref sig .tc := ⟨.hbm, 369, rfl⟩
abbrev main_call1_v76 : Ref sig .tc := ⟨.hbm, 370, rfl⟩
abbrev main_call1_c_19 : Ref sig .tc := ⟨.hbm, 371, rfl⟩
abbrev main_call1_v77 : Ref sig .tc := ⟨.hbm, 372, rfl⟩
abbrev main_call1_v78 : Ref sig .tc := ⟨.hbm, 373, rfl⟩
abbrev main_call1_v79 : Ref sig .tc := ⟨.hbm, 374, rfl⟩
abbrev main_call1_v80 : Ref sig .tc := ⟨.hbm, 375, rfl⟩
abbrev main_call1_v81 : Ref sig .tc := ⟨.hbm, 376, rfl⟩
abbrev main_call1_c_20 : Ref sig .tc := ⟨.hbm, 377, rfl⟩
abbrev main_call1_v82 : Ref sig .tc := ⟨.hbm, 378, rfl⟩
abbrev main_call1_v83 : Ref sig .tc := ⟨.hbm, 379, rfl⟩
abbrev main_call1_c_21 : Ref sig .tc := ⟨.hbm, 380, rfl⟩
abbrev main_call1_v84 : Ref sig .tc := ⟨.hbm, 381, rfl⟩
abbrev main_call1_v85 : Ref sig .tc := ⟨.hbm, 382, rfl⟩
abbrev main_call1_v86 : Ref sig .tc := ⟨.hbm, 383, rfl⟩
abbrev main_call1_v87 : Ref sig .tc := ⟨.hbm, 384, rfl⟩
abbrev main_call1_v88 : Ref sig .tc := ⟨.hbm, 385, rfl⟩
abbrev main_call1_c_22 : Ref sig .tc := ⟨.hbm, 386, rfl⟩
abbrev main_call1_v89 : Ref sig .tc := ⟨.hbm, 387, rfl⟩
abbrev main_call1_v90 : Ref sig .tc := ⟨.hbm, 388, rfl⟩
abbrev main_call1_c_23 : Ref sig .tc := ⟨.hbm, 389, rfl⟩
abbrev main_call1_v91 : Ref sig .tc := ⟨.hbm, 390, rfl⟩
abbrev main_call1_v92 : Ref sig .tc := ⟨.hbm, 391, rfl⟩
abbrev main_call1_v93 : Ref sig .tc := ⟨.hbm, 392, rfl⟩
abbrev main_call1_v94 : Ref sig .tc := ⟨.hbm, 393, rfl⟩
abbrev main_call1_v95 : Ref sig .tc := ⟨.hbm, 394, rfl⟩
abbrev main_call1_c_24 : Ref sig .tc := ⟨.hbm, 395, rfl⟩
abbrev main_call1_v96 : Ref sig .tc := ⟨.hbm, 396, rfl⟩
abbrev main_call1_v97 : Ref sig .tc := ⟨.hbm, 397, rfl⟩
abbrev main_call1_c_25 : Ref sig .tc := ⟨.hbm, 398, rfl⟩
abbrev main_call1_v98 : Ref sig .tc := ⟨.hbm, 399, rfl⟩
abbrev main_call1_v99 : Ref sig .tc := ⟨.hbm, 400, rfl⟩
abbrev main_call1_v100 : Ref sig .tc := ⟨.hbm, 401, rfl⟩
abbrev main_call1_v101 : Ref sig .tc := ⟨.hbm, 402, rfl⟩
abbrev main_call1_v102 : Ref sig .tc := ⟨.hbm, 403, rfl⟩
abbrev main_call1_v103 : Ref sig .tc := ⟨.hbm, 404, rfl⟩
abbrev main_call1_v104 : Ref sig .tc := ⟨.hbm, 405, rfl⟩
abbrev main_call1_v105 : Ref sig .tc := ⟨.hbm, 406, rfl⟩
abbrev main_call1_c_26 : Ref sig .tc := ⟨.hbm, 407, rfl⟩
abbrev main_call1_v106 : Ref sig .tc := ⟨.hbm, 408, rfl⟩
abbrev main_call1_v107 : Ref sig .tc := ⟨.hbm, 409, rfl⟩
abbrev main_call1_v108 : Ref sig .tc := ⟨.hbm, 410, rfl⟩
abbrev main_call1_c_27 : Ref sig .tc := ⟨.hbm, 411, rfl⟩
abbrev main_call1_v109 : Ref sig .tc := ⟨.hbm, 412, rfl⟩
abbrev main_call1_v110 : Ref sig .tc := ⟨.hbm, 413, rfl⟩
abbrev main_call1_c_28 : Ref sig .tc := ⟨.hbm, 414, rfl⟩
abbrev main_call1_v111 : Ref sig .tc := ⟨.hbm, 415, rfl⟩
abbrev main_call1_v112 : Ref sig .tc := ⟨.hbm, 416, rfl⟩
abbrev main_call1_v113 : Ref sig .tc := ⟨.hbm, 417, rfl⟩
abbrev main_call1_v114 : Ref sig .tc := ⟨.hbm, 418, rfl⟩
abbrev main_call1_v115 : Ref sig .tc := ⟨.hbm, 419, rfl⟩
abbrev main_call1_c_29 : Ref sig .tc := ⟨.hbm, 420, rfl⟩
abbrev main_call1_v116 : Ref sig .tc := ⟨.hbm, 421, rfl⟩
abbrev main_call1_v117 : Ref sig .tc := ⟨.hbm, 422, rfl⟩
abbrev main_call1_c_30 : Ref sig .tc := ⟨.hbm, 423, rfl⟩
abbrev main_call1_v118 : Ref sig .tc := ⟨.hbm, 424, rfl⟩
abbrev main_call1_v119 : Ref sig .tc := ⟨.hbm, 425, rfl⟩
abbrev main_call1_v120 : Ref sig .tc := ⟨.hbm, 426, rfl⟩
abbrev main_call1_v121 : Ref sig .tc := ⟨.hbm, 427, rfl⟩
abbrev main_call1_v122 : Ref sig .tc := ⟨.hbm, 428, rfl⟩
abbrev main_call1_c_31 : Ref sig .tc := ⟨.hbm, 429, rfl⟩
abbrev main_call1_v123 : Ref sig .tc := ⟨.hbm, 430, rfl⟩
abbrev main_call1_v124 : Ref sig .tc := ⟨.hbm, 431, rfl⟩
abbrev main_call1_c_32 : Ref sig .tc := ⟨.hbm, 432, rfl⟩
abbrev main_call1_v125 : Ref sig .tc := ⟨.hbm, 433, rfl⟩
abbrev main_call1_v126 : Ref sig .tc := ⟨.hbm, 434, rfl⟩
abbrev main_call1_v127 : Ref sig .tc := ⟨.hbm, 435, rfl⟩
abbrev main_call1_v128 : Ref sig .tc := ⟨.hbm, 436, rfl⟩
abbrev main_call1_v129 : Ref sig .tc := ⟨.hbm, 437, rfl⟩
abbrev main_call1_c_33 : Ref sig .tc := ⟨.hbm, 438, rfl⟩
abbrev main_call1_v130 : Ref sig .tc := ⟨.hbm, 439, rfl⟩
abbrev main_call1_v131 : Ref sig .tc := ⟨.hbm, 440, rfl⟩
abbrev main_call1_c_34 : Ref sig .tc := ⟨.hbm, 441, rfl⟩
abbrev main_call1_v132 : Ref sig .tc := ⟨.hbm, 442, rfl⟩
abbrev main_call1_v133 : Ref sig .tc := ⟨.hbm, 443, rfl⟩
abbrev main_call1_v134 : Ref sig .tc := ⟨.hbm, 444, rfl⟩
abbrev main_call1_v135 : Ref sig .tc := ⟨.hbm, 445, rfl⟩
abbrev main_call1_v136 : Ref sig .tc := ⟨.hbm, 446, rfl⟩
abbrev main_call1_v137 : Ref sig .tc := ⟨.hbm, 447, rfl⟩
abbrev main_call1_v138 : Ref sig .tc := ⟨.hbm, 448, rfl⟩
abbrev main_call1_v139 : Ref sig .tc := ⟨.hbm, 449, rfl⟩
abbrev main_call1_c_35 : Ref sig .tc := ⟨.hbm, 450, rfl⟩
abbrev main_call1_v140 : Ref sig .tc := ⟨.hbm, 451, rfl⟩
abbrev main_call1_v141 : Ref sig .tc := ⟨.hbm, 452, rfl⟩
abbrev main_call1_v142 : Ref sig .tc := ⟨.hbm, 453, rfl⟩
abbrev main_call1_c_36 : Ref sig .tc := ⟨.hbm, 454, rfl⟩
abbrev main_call1_v143 : Ref sig .tc := ⟨.hbm, 455, rfl⟩
abbrev main_call1_v144 : Ref sig .tc := ⟨.hbm, 456, rfl⟩
abbrev main_call1_c_37 : Ref sig .tc := ⟨.hbm, 457, rfl⟩
abbrev main_call1_v145 : Ref sig .tc := ⟨.hbm, 458, rfl⟩
abbrev main_call1_v146 : Ref sig .tc := ⟨.hbm, 459, rfl⟩
abbrev main_call1_v147 : Ref sig .tc := ⟨.hbm, 460, rfl⟩
abbrev main_call1_v148 : Ref sig .tc := ⟨.hbm, 461, rfl⟩
abbrev main_call1_v149 : Ref sig .tc := ⟨.hbm, 462, rfl⟩
abbrev main_call1_c_38 : Ref sig .tc := ⟨.hbm, 463, rfl⟩
abbrev main_call1_v150 : Ref sig .tc := ⟨.hbm, 464, rfl⟩
abbrev main_call1_v151 : Ref sig .tc := ⟨.hbm, 465, rfl⟩
abbrev main_call1_c_39 : Ref sig .tc := ⟨.hbm, 466, rfl⟩
abbrev main_call1_v152 : Ref sig .tc := ⟨.hbm, 467, rfl⟩
abbrev main_call1_v153 : Ref sig .tc := ⟨.hbm, 468, rfl⟩
abbrev main_call1_v154 : Ref sig .tc := ⟨.hbm, 469, rfl⟩
abbrev main_call1_v155 : Ref sig .tc := ⟨.hbm, 470, rfl⟩
abbrev main_call1_v156 : Ref sig .tc := ⟨.hbm, 471, rfl⟩
abbrev main_call1_c_40 : Ref sig .tc := ⟨.hbm, 472, rfl⟩
abbrev main_call1_v157 : Ref sig .tc := ⟨.hbm, 473, rfl⟩
abbrev main_call1_v158 : Ref sig .tc := ⟨.hbm, 474, rfl⟩
abbrev main_call1_c_41 : Ref sig .tc := ⟨.hbm, 475, rfl⟩
abbrev main_call1_v159 : Ref sig .tc := ⟨.hbm, 476, rfl⟩
abbrev main_call1_v160 : Ref sig .tc := ⟨.hbm, 477, rfl⟩
abbrev main_call1_v161 : Ref sig .tc := ⟨.hbm, 478, rfl⟩
abbrev main_call1_v162 : Ref sig .tc := ⟨.hbm, 479, rfl⟩
abbrev main_call1_v163 : Ref sig .tc := ⟨.hbm, 480, rfl⟩
abbrev main_call1_c_42 : Ref sig .tc := ⟨.hbm, 481, rfl⟩
abbrev main_call1_v164 : Ref sig .tc := ⟨.hbm, 482, rfl⟩
abbrev main_call1_v165 : Ref sig .tc := ⟨.hbm, 483, rfl⟩
abbrev main_call1_c_43 : Ref sig .tc := ⟨.hbm, 484, rfl⟩
abbrev main_call1_v166 : Ref sig .tc := ⟨.hbm, 485, rfl⟩
abbrev main_call1_v167 : Ref sig .tc := ⟨.hbm, 486, rfl⟩
abbrev main_call1_v168 : Ref sig .tc := ⟨.hbm, 487, rfl⟩
abbrev main_call1_v169 : Ref sig .tc := ⟨.hbm, 488, rfl⟩
abbrev main_call1_v170 : Ref sig .tc := ⟨.hbm, 489, rfl⟩
abbrev main_v29_0 : Ref sig .tc := ⟨.hbm, 490, rfl⟩
abbrev main_call1_v172 : Ref sig .tc := ⟨.hbm, 491, rfl⟩
abbrev main_call1_v173 : Ref sig .tc := ⟨.hbm, 492, rfl⟩
abbrev main_call1_c_44 : Ref sig .tc := ⟨.hbm, 493, rfl⟩
abbrev main_call1_v174 : Ref sig .tc := ⟨.hbm, 494, rfl⟩
abbrev main_v29_1 : Ref sig .tc := ⟨.hbm, 495, rfl⟩
abbrev main_v30 : Ref sig .tc := ⟨.hbm, 496, rfl⟩
abbrev main_c_5 : Ref sig .tc := ⟨.hbm, 497, rfl⟩
abbrev main_v31 : Ref sig .tc := ⟨.hbm, 498, rfl⟩
abbrev main_v32 : Ref sig .tc := ⟨.hbm, 499, rfl⟩
abbrev main_c_6 : Ref sig .tc := ⟨.hbm, 500, rfl⟩
abbrev main_v33 : Ref sig .tc := ⟨.hbm, 501, rfl⟩
abbrev main_v34 : Ref sig .tc := ⟨.hbm, 502, rfl⟩
abbrev main_v35 : Ref sig .tc := ⟨.hbm, 503, rfl⟩
abbrev main_cst : Ref sig .tc := ⟨.hbm, 504, rfl⟩
abbrev main_v36 : Ref sig .tc := ⟨.hbm, 505, rfl⟩
abbrev main_v37 : Ref sig .tc := ⟨.hbm, 506, rfl⟩
abbrev main_cst_7 : Ref sig .tc := ⟨.hbm, 507, rfl⟩
abbrev main_v38 : Ref sig .tc := ⟨.hbm, 508, rfl⟩
abbrev main_v39 : Ref sig .tc := ⟨.hbm, 509, rfl⟩
abbrev main_cst_8 : Ref sig .tc := ⟨.hbm, 510, rfl⟩
abbrev main_v40 : Ref sig .tc := ⟨.hbm, 511, rfl⟩
abbrev main_v41 : Ref sig .tc := ⟨.hbm, 512, rfl⟩
abbrev main_cst_9 : Ref sig .tc := ⟨.hbm, 513, rfl⟩
abbrev main_v42 : Ref sig .tc := ⟨.hbm, 514, rfl⟩
abbrev main_v43 : Ref sig .tc := ⟨.hbm, 515, rfl⟩
abbrev main_v44 : Ref sig .tc := ⟨.hbm, 516, rfl⟩
abbrev main_v45 : Ref sig .tc := ⟨.hbm, 517, rfl⟩
abbrev main_v46 : Ref sig .tc := ⟨.hbm, 518, rfl⟩
abbrev main_v47 : Ref sig .tc := ⟨.hbm, 519, rfl⟩
abbrev main_cst_10 : Ref sig .tc := ⟨.hbm, 520, rfl⟩
abbrev main_v48 : Ref sig .tc := ⟨.hbm, 521, rfl⟩
abbrev main_v49 : Ref sig .tc := ⟨.hbm, 522, rfl⟩
abbrev main_cst_11 : Ref sig .tc := ⟨.hbm, 523, rfl⟩
abbrev main_v50 : Ref sig .tc := ⟨.hbm, 524, rfl⟩
abbrev main_v51 : Ref sig .tc := ⟨.hbm, 525, rfl⟩
abbrev main_v52 : Ref sig .tc := ⟨.hbm, 526, rfl⟩
abbrev main_cst_12 : Ref sig .tc := ⟨.hbm, 527, rfl⟩
abbrev main_v53 : Ref sig .tc := ⟨.hbm, 528, rfl⟩
abbrev main_v54 : Ref sig .tc := ⟨.hbm, 529, rfl⟩
abbrev main_v55 : Ref sig .tc := ⟨.hbm, 530, rfl⟩
abbrev main_cst_13 : Ref sig .tc := ⟨.hbm, 531, rfl⟩
abbrev main_cst_14 : Ref sig .tc := ⟨.hbm, 532, rfl⟩
abbrev main_call3_v0 : Ref sig .tc := ⟨.hbm, 533, rfl⟩
abbrev main_call3_v1 : Ref sig .tc := ⟨.hbm, 534, rfl⟩
abbrev main_v56 : Ref sig .tc := ⟨.hbm, 535, rfl⟩
abbrev main_cst_15 : Ref sig .tc := ⟨.hbm, 536, rfl⟩
abbrev main_cst_16 : Ref sig .tc := ⟨.hbm, 537, rfl⟩
abbrev main_call4_v0 : Ref sig .tc := ⟨.hbm, 538, rfl⟩
abbrev main_call4_v1 : Ref sig .tc := ⟨.hbm, 539, rfl⟩
abbrev main_v57 : Ref sig .tc := ⟨.hbm, 540, rfl⟩
abbrev main_v58 : Ref sig .tc := ⟨.hbm, 541, rfl⟩
abbrev main_v59 : Ref sig .tc := ⟨.hbm, 542, rfl⟩
abbrev main_v60 : Ref sig .tc := ⟨.hbm, 543, rfl⟩
abbrev main_v61 : Ref sig .tc := ⟨.hbm, 544, rfl⟩
abbrev main_cst_17 : Ref sig .tc := ⟨.hbm, 545, rfl⟩
abbrev main_cst_18 : Ref sig .tc := ⟨.hbm, 546, rfl⟩
abbrev main_call5_v0 : Ref sig .tc := ⟨.hbm, 547, rfl⟩
abbrev main_call5_v1 : Ref sig .tc := ⟨.hbm, 548, rfl⟩
abbrev main_v62 : Ref sig .tc := ⟨.hbm, 549, rfl⟩
abbrev main_v63 : Ref sig .tc := ⟨.hbm, 550, rfl⟩
abbrev main_v64 : Ref sig .tc := ⟨.hbm, 551, rfl⟩
abbrev main_v65 : Ref sig .tc := ⟨.hbm, 552, rfl⟩
abbrev main_cst_19 : Ref sig .tc := ⟨.hbm, 553, rfl⟩
abbrev main_cst_20 : Ref sig .tc := ⟨.hbm, 554, rfl⟩
abbrev main_call6_v0 : Ref sig .tc := ⟨.hbm, 555, rfl⟩
abbrev main_call6_v1 : Ref sig .tc := ⟨.hbm, 556, rfl⟩
abbrev main_v66 : Ref sig .tc := ⟨.hbm, 557, rfl⟩
abbrev main_v67 : Ref sig .tc := ⟨.hbm, 558, rfl⟩
abbrev main_v68 : Ref sig .tc := ⟨.hbm, 559, rfl⟩
abbrev main_v69 : Ref sig .tc := ⟨.hbm, 560, rfl⟩
abbrev main_cst_21 : Ref sig .tc := ⟨.hbm, 561, rfl⟩
abbrev main_cst_22 : Ref sig .tc := ⟨.hbm, 562, rfl⟩
abbrev main_call7_v0 : Ref sig .tc := ⟨.hbm, 563, rfl⟩
abbrev main_call7_v1 : Ref sig .tc := ⟨.hbm, 564, rfl⟩
abbrev main_v70 : Ref sig .tc := ⟨.hbm, 565, rfl⟩
abbrev main_v71 : Ref sig .tc := ⟨.hbm, 566, rfl⟩
abbrev main_v72 : Ref sig .tc := ⟨.hbm, 567, rfl⟩
abbrev main_v73 : Ref sig .tc := ⟨.hbm, 568, rfl⟩
abbrev main_cst_23 : Ref sig .tc := ⟨.hbm, 569, rfl⟩
abbrev main_cst_24 : Ref sig .tc := ⟨.hbm, 570, rfl⟩
abbrev main_call8_v0 : Ref sig .tc := ⟨.hbm, 571, rfl⟩
abbrev main_call8_v1 : Ref sig .tc := ⟨.hbm, 572, rfl⟩
abbrev main_v74 : Ref sig .tc := ⟨.hbm, 573, rfl⟩
abbrev main_v75 : Ref sig .tc := ⟨.hbm, 574, rfl⟩
abbrev main_v76 : Ref sig .tc := ⟨.hbm, 575, rfl⟩
abbrev main_v77 : Ref sig .tc := ⟨.hbm, 576, rfl⟩
abbrev main_cst_25 : Ref sig .tc := ⟨.hbm, 577, rfl⟩
abbrev main_cst_26 : Ref sig .tc := ⟨.hbm, 578, rfl⟩
abbrev main_call9_v0 : Ref sig .tc := ⟨.hbm, 579, rfl⟩
abbrev main_call9_v1 : Ref sig .tc := ⟨.hbm, 580, rfl⟩
abbrev main_v78 : Ref sig .tc := ⟨.hbm, 581, rfl⟩
abbrev main_v79 : Ref sig .tc := ⟨.hbm, 582, rfl⟩
abbrev main_v80 : Ref sig .tc := ⟨.hbm, 583, rfl⟩
abbrev main_v81 : Ref sig .tc := ⟨.hbm, 584, rfl⟩
abbrev main_cst_27 : Ref sig .tc := ⟨.hbm, 585, rfl⟩
abbrev main_cst_28 : Ref sig .tc := ⟨.hbm, 586, rfl⟩
abbrev main_call10_v0 : Ref sig .tc := ⟨.hbm, 587, rfl⟩
abbrev main_call10_v1 : Ref sig .tc := ⟨.hbm, 588, rfl⟩
abbrev main_v82 : Ref sig .tc := ⟨.hbm, 589, rfl⟩
abbrev main_v83 : Ref sig .tc := ⟨.hbm, 590, rfl⟩
abbrev main_v84 : Ref sig .tc := ⟨.hbm, 591, rfl⟩
abbrev main_v85 : Ref sig .tc := ⟨.hbm, 592, rfl⟩
abbrev main_cst_29 : Ref sig .tc := ⟨.hbm, 593, rfl⟩
abbrev main_cst_30 : Ref sig .tc := ⟨.hbm, 594, rfl⟩
abbrev main_call11_v0 : Ref sig .tc := ⟨.hbm, 595, rfl⟩
abbrev main_call11_v1 : Ref sig .tc := ⟨.hbm, 596, rfl⟩
abbrev main_v86 : Ref sig .tc := ⟨.hbm, 597, rfl⟩
abbrev main_v87 : Ref sig .tc := ⟨.hbm, 598, rfl⟩
abbrev main_v88 : Ref sig .tc := ⟨.hbm, 599, rfl⟩
abbrev main_v89 : Ref sig .tc := ⟨.hbm, 600, rfl⟩
abbrev main_v90 : Ref sig .tc := ⟨.hbm, 601, rfl⟩
abbrev main_cst_31 : Ref sig .tc := ⟨.hbm, 602, rfl⟩
abbrev main_v91 : Ref sig .tc := ⟨.hbm, 603, rfl⟩
abbrev main_v92 : Ref sig .tc := ⟨.hbm, 604, rfl⟩
abbrev main_cst_32 : Ref sig .tc := ⟨.hbm, 605, rfl⟩
abbrev main_v93 : Ref sig .tc := ⟨.hbm, 606, rfl⟩
abbrev main_v94 : Ref sig .tc := ⟨.hbm, 607, rfl⟩
abbrev main_v95 : Ref sig .tc := ⟨.hbm, 608, rfl⟩
abbrev main_v96 : Ref sig .tc := ⟨.hbm, 609, rfl⟩
abbrev main_cst_33 : Ref sig .tc := ⟨.hbm, 610, rfl⟩
abbrev main_v97 : Ref sig .tc := ⟨.hbm, 611, rfl⟩
abbrev main_v98 : Ref sig .tc := ⟨.hbm, 612, rfl⟩
abbrev main_v99 : Ref sig .tc := ⟨.hbm, 613, rfl⟩
abbrev main_v100 : Ref sig .tc := ⟨.hbm, 614, rfl⟩
abbrev main_v101 : Ref sig .tc := ⟨.hbm, 615, rfl⟩
abbrev main_c_34 : Ref sig .tc := ⟨.hbm, 616, rfl⟩
abbrev main_v102 : Ref sig .tc := ⟨.hbm, 617, rfl⟩
abbrev main_v103 : Ref sig .tc := ⟨.hbm, 618, rfl⟩
abbrev main_c_35 : Ref sig .tc := ⟨.hbm, 619, rfl⟩
abbrev main_v104 : Ref sig .tc := ⟨.hbm, 620, rfl⟩
abbrev main_v105 : Ref sig .tc := ⟨.hbm, 621, rfl⟩
abbrev main_v106 : Ref sig .tc := ⟨.hbm, 622, rfl⟩
abbrev main_v107 : Ref sig .tc := ⟨.hbm, 623, rfl⟩
abbrev main_v108 : Ref sig .tc := ⟨.hbm, 624, rfl⟩
abbrev main_cst_36 : Ref sig .tc := ⟨.hbm, 625, rfl⟩
abbrev main_v109 : Ref sig .tc := ⟨.hbm, 626, rfl⟩
abbrev main_v110 : Ref sig .tc := ⟨.hbm, 627, rfl⟩
abbrev main_cst_37 : Ref sig .tc := ⟨.hbm, 628, rfl⟩
abbrev main_call13_v0 : Ref sig .tc := ⟨.hbm, 629, rfl⟩
abbrev main_call13_v1 : Ref sig .tc := ⟨.hbm, 630, rfl⟩
abbrev main_call13_v2 : Ref sig .tc := ⟨.hbm, 631, rfl⟩
abbrev main_v111 : Ref sig .tc := ⟨.hbm, 632, rfl⟩
abbrev main_v112 : Ref sig .tc := ⟨.hbm, 633, rfl⟩

abbrev nD : Nat := 1
abbrev τ : Topo := Topo.v7x

variable {F : FTy → Type} [FloatOps F]
-- ==== Fused.lean ====
abbrev S1024x8x256 : Shape := ⟨3, ![1024, 8, 256]⟩
abbrev S8x32x32 : Shape := ⟨3, ![8, 32, 32]⟩
abbrev S8x1x1024 : Shape := ⟨3, ![8, 1, 1024]⟩
abbrev S512x256 : Shape := ⟨2, ![512, 256]⟩
abbrev S1x512 : Shape := ⟨2, ![1, 512]⟩
abbrev S3x512x1024 : Shape := ⟨3, ![3, 512, 1024]⟩
abbrev S1x1x1024 : Shape := ⟨3, ![1, 1, 1024]⟩
abbrev S1024 : Shape := ⟨1, ![1024]⟩
abbrev S3x64x1024 : Shape := ⟨3, ![3, 64, 1024]⟩
abbrev S512 : Shape := ⟨1, ![512]⟩
abbrev S512x3x1024 : Shape := ⟨3, ![512, 3, 1024]⟩

abbrev nBuf : Space → Nat
  | .hbm => 9
  | .vmem => 4
  | .smem => 0
  | _ => 0

abbrev bufTy : (tb : Table) → Fin (tcTables nBuf tb) → BufTy
  | .hbm, ⟨0, _⟩ => ⟨S1024x8x256, .f32⟩
  | .hbm, ⟨1, _⟩ => ⟨S8x32x32, .i1⟩
  | .hbm, ⟨2, _⟩ => ⟨S8x1x1024, .i1⟩
  | .hbm, ⟨3, _⟩ => ⟨S8x1x1024, .f32⟩
  | .hbm, ⟨4, _⟩ => ⟨S512x256, .f32⟩
  | .hbm, ⟨5, _⟩ => ⟨S1x512, .i32⟩
  | .hbm, ⟨6, _⟩ => ⟨S3x512x1024, .f32⟩
  | .hbm, ⟨7, _⟩ => ⟨S512, .i32⟩
  | .hbm, ⟨8, _⟩ => ⟨S512x3x1024, .f32⟩
  | .local _ .vmem, ⟨0, _⟩ => ⟨S8x1x1024, .f32⟩
  | .local _ .vmem, ⟨1, _⟩ => ⟨S512x256, .f32⟩
  | .local _ .vmem, ⟨2, _⟩ => ⟨S1x512, .i32⟩
  | .local _ .vmem, ⟨3, _⟩ => ⟨S3x512x1024, .f32⟩
  | _, _ => ⟨S1024x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Ke.Base.lean ====
/- The SparseCore call's set-up: the launch, the memory regions one task works on, what each holds, and what the
   handshakes carry. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

local notation "vV" => (Memref.whole Cert.KernelIdeal.main_v1_scv : Memref Cert.KernelIdeal.sig Kind.scVector Space.hbm Cert.KernelIdeal.S8x1024 EltTy.f32)
local notation "oV" => (Memref.whole Cert.KernelIdeal.main_v3_scv : Memref Cert.KernelIdeal.sig Kind.scVector Space.hbm Cert.KernelIdeal.S512x3x1024 EltTy.f32)
local notation "sM" => (Memref.whole Cert.KernelIdeal.cc1_scratch0 : Memref Cert.KernelIdeal.sig Kind.scVector Space.vmem Cert.KernelIdeal.S1024 EltTy.f32)
local notation "sG" => (Memref.whole Cert.KernelIdeal.cc1_scratch1 : Memref Cert.KernelIdeal.sig Kind.scVector Space.vmem Cert.KernelIdeal.S3x1024 EltTy.f32)

abbrev vLoc (d : Dev nD) : Loc nD τ sig := (SparseCore.T d).loc main_v1
abbrev oLoc (d : Dev nD) : Loc nD τ sig := (SparseCore.T d).loc main_v3

section Tile

variable [FloatOps F]
variable (d : Dev nD) (L : grid1.Coords)

abbrev cV (L : grid1.Coords) : Fin τ.nSC := (L 0).castLE hcore1
abbrev jV (L : grid1.Coords) : Fin τ.nSub := (L 1).castLE hsub1

/-- The mask's row the task reads, and row `r` of the task's sixteen, as the body spells them. -/
abbrev mRowK (L : grid1.Coords) : Memref sig .scVector .hbm S1024 .f32 :=
  ((vV).slice (Rect.unit (s := S8x1024) (k1_off1 L) S1x1024.size (k1_off1_inb L)) (fun _ => rfl)).squeeze S1024 squeezes_S1x1024_S1024
abbrev oRowK (L : grid1.Coords) (r : Fin 16) : Memref sig .scVector .hbm S3x1024 .f32 :=
  ((oV).slice (Rect.unit (s := S512x3x1024) (k1_off2 L (BitVec.ofNat 32 r.val)) S1x3x1024.size (k1_off2_inb L r)) (fun _ => rfl)).squeeze S3x1024 squeezes_S1x3x1024_S3x1024

/-- A row of numbers, times the fill, on each of the three channels. -/
def chan (u : S1024.Idx → F .f32) : S3x1024.Idx → F .f32 := fun y =>
  FloatOps.mulf (u fun a => match a with | 0 => ⟨(y 1).val, (y 1).isLt⟩) (Scalar.ofBits .f32 0xC9742400#32)

/-- Sixteen numbers from position `o` lie in the row. -/
theorem inb_row {o : ℕ} (ho : o + 16 ≤ 1024) : ∀ a, (![o] : Fin 1 → ℕ) a + S16.size a ≤ S1024.size a := fun a => match a with | 0 => ho

/-- What one store holds: sixteen numbers of the row, times the fill. -/
def lane (u : S1024.Idx → F .f32) (o : ℕ) (ho : o + 16 ≤ 1024) : FVec F S1x16 .f32 :=
  shapeCast S1x16 (mulf (shapeCast S16 ((sM).view.readAt (Elt F) (Rect.unit (s := S1024) ![o] S16.size (inb_row ho)).toLoadRect u) shapeCasts_S16_S16)
    (broadcast S16 (Scalar.ofBits .f32 0xC9742400#32))) shapeCasts_S16_S1x16

theorem lane_eq (u : S1024.Idx → F .f32) (r o : ℕ) (inb' : ∀ a, (![r, o] : Fin 2 → ℕ) a + S1x16.size a ≤ S3x1024.size a) (x : S1x16.Idx) :
    lane u o (inb' 1) x = chan u ((Rect.unit (s := S3x1024) ![r, o] S1x16.size inb').emb x) := by
  unfold lane
  refine (shapeCast_addUnit_apply (n := 1) ![16] _ _ x).trans ?_
  refine congrArg (fun t => FloatOps.mulf t (Scalar.ofBits .f32 0xC9742400#32 : F .f32)) ?_
  refine (congrFun (shapeCast_self _ _) _).trans (congrArg u ?_)
  funext a
  match a with
  | 0 => rfl

theorem lane_fits (u : S1024.Idx → F .f32) (r o : ℕ) (inb' : ∀ a, (![r, o] : Fin 2 → ℕ) a + S1x16.size a ≤ S3x1024.size a)
    (p : S1x16.Idx → F .f32) (h : p = lane u o (inb' 1)) (x : S1x16.Idx) : p x = chan u ((Rect.unit (s := S3x1024) ![r, o] S1x16.size inb').emb x) :=
  h ▸ lane_eq u r o inb' x

abbrev thr (d : Dev nD) (L : grid1.Coords) : Thread nD τ := V d (cV L) (jV L)

/-- The numbers of the mask's row, as the fetch leaves them. -/
def rowOf (L : grid1.Coords) (fv : Buf (Elt F) (vLoc d)) : S1024.Idx → F .f32 := (mRowK L).view.read (Elt F) fv

/-- Row `r` of the task's sixteen, landed. -/
abbrev landed (fv : Buf (Elt F) (vLoc d)) (fo : Buf (Elt F) (oLoc d)) (r : Fin 16) : Buf (Elt F) (oLoc d) :=
  (oRowK L r).view.writes (Elt F) fo [⟨Rect.whole S3x1024, ReadAs.same.apply ((sG).view.read (Elt F) (chan (rowOf d L fv)))⟩]

abbrev deliv (fv : Buf (Elt F) (vLoc d)) (fo : Buf (Elt F) (oLoc d)) (r : Fin 16) : sProp 𝕄 :=
  iprop(((oRowK L r).view.loc (thr d L) ↦[(oRowK L r).view.set]{fullShare} landed d L fv fo r)
    ∗ ((sG).view.loc (thr d L) ↦[(sG).view.set]{Transfers.shareTok fullShare 16 r} chan (rowOf d L fv)))

abbrev unit16 (L : grid1.Coords) : ℕ := (oRowK L 0).view.amount (SemLoc.dma (sig := sig) cc1_scratch2.sem)

theorem bigSep_16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

/-- The block after writes that all agree with one function and cover it. -/
theorem settle (f : Buf (Elt F) ((thr d L).loc cc1_scratch1)) (P : List (View.Piece (Elt F) S3x1024 .f32)) (G : S3x1024.Idx → F .f32)
    (hG : ∀ p ∈ P, ∀ x : p.1.shape.Idx, p.2 x = G (p.1.emb x)) (hc : View.Piece.tiled P ![1, 16] = true)
    (G' : S3x1024.Idx → F .f32) (e : G = G') :
    ((sG).view.loc (thr d L) ↦{fullShare} (sG).view.writes (Elt F) f P) ⊢ ((sG).view.loc (thr d L) ↦{fullShare} G' : sProp 𝕄) :=
  e ▸ Entails.of_eq (pointsTo_congr fun y _ => View.read_writes_apply_of_pieces (v := (sG).view) (f := f) G P hG y (View.cover_of_tiled P _ hc y))

/-- What is left of the block's share once the sixteen tokens are dealt. -/
def spare (G : Buf (Elt F) ((thr d L).loc cc1_scratch1)) : sProp 𝕄 := (sG).view.loc (thr d L) ↦{Transfers.shareDrop fullShare 16} G

/-- The block's read tokens, one for each of the sixteen copies out, and what is left of the share. -/
theorem block_toks (G : Buf (Elt F) ((thr d L).loc cc1_scratch1)) :
    ((sG).view.loc (thr d L) ↦{fullShare} G : sProp 𝕄)
      = iprop(spare d L G
        ∗ bigSep Finset.univ fun r : Fin 16 => (sG).view.loc (thr d L) ↦[(sG).view.set]{Transfers.shareTok fullShare 16 r} G) := by
  rw [show (sG).view.set = Finset.univ from View.set_whole _]
  exact BI.Entails.antisymm (Transfers.pointsTo_toks_split fullShare 16) (Transfers.pointsTo_toks_join fullShare 16)

/-! ## Where a task's rows lie and what they hold -/

omit [FloatOps F] in
theorem k1_off1_eq : ∀ i : grid1.Coords, k1_off1 i = ![(2 * (i 1).val + (i 0).val) / 4, 0] := by decide +kernel

/-- Row `r` of the sixteen rows of task `(c, i)`. -/
def rowSet (c : Fin 2) (i r : Fin 16) : Finset S512x3x1024.Idx :=
  Finset.univ.filter fun y => (y 0).val = 32 * i.val + 16 * c.val + r.val

theorem bound1_zero : grid1.bound 0 = 2 := rfl
theorem bound1_one : grid1.bound 1 = 16 := rfl
abbrev cL (L : grid1.Coords) : Fin 2 := Fin.cast bound1_zero (L 0)
abbrev iL (L : grid1.Coords) : Fin 16 := Fin.cast bound1_one (L 1)

omit [FloatOps F] in
theorem set_oRowK (r : Fin 16) : (oRowK L r).view.set = rowSet (cL L) (iL L) r := by
  show (((oV).view.slice (Rect.unit (s := S512x3x1024) (k1_off2 L (BitVec.ofNat 32 r.val)) S1x3x1024.size (k1_off2_inb L r))).reshape S3x1024 squeezes_S1x3x1024_S3x1024.numel_eq).set = _
  rw [View.set_reshape, View.set_slice]
  refine Finset.map_refl.trans ?_
  ext y
  rw [Rect.mem_set_unit, rowSet, Finset.mem_filter, k1_off2_eq]
  have h1 : (y 1).val < 3 := (y 1).isLt
  have h2 : (y 2).val < 1024 := (y 2).isLt
  constructor
  · intro h
    have h0 : 32 * (L 1).val + 16 * (L 0).val + r.val ≤ (y 0).val ∧ (y 0).val < 32 * (L 1).val + 16 * (L 0).val + r.val + 1 := h 0
    exact ⟨Finset.mem_univ y, show (y 0).val = 32 * (L 1).val + 16 * (L 0).val + r.val by omega⟩
  · rintro ⟨-, h⟩
    have h' : (y 0).val = 32 * (L 1).val + 16 * (L 0).val + r.val := h
    intro a
    match a with
    | 0 => exact (show 32 * (L 1).val + 16 * (L 0).val + r.val ≤ (y 0).val ∧ (y 0).val < 32 * (L 1).val + 16 * (L 0).val + r.val + 1 by omega)
    | 1 => exact (show 0 ≤ (y 1).val ∧ (y 1).val < 0 + 3 by omega)
    | 2 => exact (show 0 ≤ (y 2).val ∧ (y 2).val < 0 + 1024 by omega)

/-- Position `k` of row `b` of the mask. -/
abbrev vIdx (b : Fin 8) (k : Fin 1024) : S8x1024.Idx := fun a => match a with | 0 => b | 1 => k

/-- The result the call leaves: row `n`, any channel, is row `n / 64` of the mask times the fill. -/
def resOf (fv : Buf (Elt F) (vLoc d)) : Buf (Elt F) (oLoc d) := fun y =>
  FloatOps.mulf (fv (vIdx ⟨(y 0).val / 64, by have h : (y 0).val < 512 := (y 0).isLt; omega⟩ ⟨(y 2).val, (y 2).isLt⟩)) (Scalar.ofBits .f32 0xC9742400#32)

omit [FloatOps F] in
theorem emb_oRowK (r : Fin 16) (x : S3x1024.Idx) :
    (((oRowK L r).view.emb x) 0).val = 32 * (L 1).val + 16 * (L 0).val + r.val ∧ (((oRowK L r).view.emb x) 2).val = (x 1).val := by
  have e : (oRowK L r).view.emb x = (Rect.unit (s := S512x3x1024) (k1_off2 L (BitVec.ofNat 32 r.val)) S1x3x1024.size (k1_off2_inb L r)).emb
      (Shape.reshapeEquiv squeezes_S1x3x1024_S3x1024.numel_eq x) := rfl
  rw [e, Shape.reshapeEquiv_cons_one (d := ![3, 1024])]
  constructor
  · show k1_off2 L (BitVec.ofNat 32 r.val) 0 + 1 * 0 = _
    rw [k1_off2_eq]; rfl
  · show k1_off2 L (BitVec.ofNat 32 r.val) 2 + 1 * (x 1).val = _
    rw [k1_off2_eq]; show 0 + 1 * (x 1).val = _; omega

omit [FloatOps F] in
theorem emb_mRowK (x : S1024.Idx) : (mRowK L).view.emb x = vIdx ⟨(2 * (L 1).val + (L 0).val) / 4, by
    have h0 : (L 0).val < 2 := (L 0).isLt
    have h1 : (L 1).val < 16 := (L 1).isLt
    omega⟩ ⟨(x 0).val, (x 0).isLt⟩ := by
  have e : (mRowK L).view.emb x = (Rect.unit (s := S8x1024) (k1_off1 L) S1x1024.size (k1_off1_inb L)).emb
      (Shape.reshapeEquiv squeezes_S1x1024_S1024.numel_eq x) := rfl
  rw [e, Shape.reshapeEquiv_cons_one (d := ![1024])]
  funext a
  refine Fin.ext ?_
  match a with
  | 0 =>
    show k1_off1 L 0 + 1 * 0 = _
    rw [k1_off1_eq]; rfl
  | 1 =>
    show k1_off1 L 1 + 1 * (x 0).val = (x 0).val
    rw [k1_off1_eq]; show 0 + 1 * (x 0).val = _; omega

omit [FloatOps F] in
theorem rowOf_eq (fv : Buf (Elt F) (vLoc d)) (x : S1024.Idx) : rowOf d L fv x = fv ((mRowK L).view.emb x) := rfl

theorem chan_eq (fv : Buf (Elt F) (vLoc d)) (r : Fin 16) (x : S3x1024.Idx) :
    chan (rowOf d L fv) x = resOf d fv ((oRowK L r).view.emb x) := by
  obtain ⟨e0, e2⟩ := emb_oRowK L r x
  have h0 : (L 0).val < 2 := (L 0).isLt
  have h1 : (L 1).val < 16 := (L 1).isLt
  unfold chan resOf
  refine congrArg (fun t => FloatOps.mulf t (Scalar.ofBits .f32 0xC9742400#32 : F .f32)) ?_
  rw [rowOf_eq, emb_mRowK]
  refine congrArg fv (funext fun a => Fin.ext ?_)
  match a with
  | 0 =>
    show (2 * (L 1).val + (L 0).val) / 4 = (((oRowK L r).view.emb x) 0).val / 64
    rw [e0]; omega
  | 1 => exact e2.symm

/-- A landed row is the result's row. -/
theorem landed_eq (fv : Buf (Elt F) (vLoc d)) (fo : Buf (Elt F) (oLoc d)) (r : Fin 16) :
    ∀ y ∈ (oRowK L r).view.set, landed d L fv fo r y = resOf d fv y := by
  intro y hy
  obtain ⟨x, -, rfl⟩ := Finset.mem_map.mp hy
  rw [← chan_eq]
  have h := congrFun (View.read_writes_whole (oRowK L r).view fo (ReadAs.same.apply ((sG).view.read (Elt F) (chan (rowOf d L fv))))) x
  rw [View.read_apply] at h
  exact (cast_eq _ _).symm.trans h

omit [FloatOps F] in
theorem pts_oRow (r : Fin 16) (f : Buf (Elt F) (oLoc d)) :
    ((oRowK L r).view.loc (V d (cV L) (jV L)) ↦[(oRowK L r).view.set]{fullShare} f : sProp 𝕄) = oLoc d ↦[rowSet (cL L) (iL L) r]{fullShare} f := by
  rw [set_oRowK]

theorem pts_landed (fv : Buf (Elt F) (vLoc d)) (fo : Buf (Elt F) (oLoc d)) (r : Fin 16) :
    ((oRowK L r).view.loc (V d (cV L) (jV L)) ↦[(oRowK L r).view.set]{fullShare} landed d L fv fo r : sProp 𝕄)
      = oLoc d ↦[rowSet (cL L) (iL L) r]{fullShare} resOf d fv := by
  rw [pointsTo_congr (landed_eq d L fv fo r), set_oRowK]

end Tile

/-! ## What the handshakes carry -/

section Payloads

variable [FloatOps F] (fv : (d : Dev nD) → Buf (Elt F) (vLoc d)) (fo : (d : Dev nD) → Buf (Elt F) (oLoc d))

/-- SparseCore `c`'s share of the mask, and tile `i`'s of it. -/
abbrev cSh (c : Fin 2) : PosShare TreeShare := Transfers.shareTok fullShare 2 c
abbrev tSh (c : Fin 2) (i : Fin 16) : PosShare TreeShare := Transfers.shareTok (cSh c) 16 i

abbrev vCore (d : Dev nD) (c : Fin 2) : sProp 𝕄 := vLoc d ↦{cSh c} fv d
abbrev vTile (d : Dev nD) (c : Fin 2) (i : Fin 16) : sProp 𝕄 := vLoc d ↦{tSh c i} fv d
abbrev oTile (d : Dev nD) (c : Fin 2) (i : Fin 16) (f : Buf (Elt F) (oLoc d)) : sProp 𝕄 :=
  bigSep Finset.univ fun r : Fin 16 => oLoc d ↦[rowSet c i r]{fullShare} f
abbrev oCore (d : Dev nD) (c : Fin 2) (f : Buf (Elt F) (oLoc d)) : sProp 𝕄 := bigSep Finset.univ fun i : Fin 16 => oTile d c i f

/-- The call hands each SparseCore a read share of the mask and the rows of its tasks, a task its own; they come back holding the result. -/
def P : (K (F := F)).Pay (nD := nD) (Val := Elt F) (Name := ℕ) (U := UU) where
  st := fun q d c => match q with | 0 => iprop(vCore fv d (Fin.cast nCore_zero c) ∗ oCore d (Fin.cast nCore_zero c) (fo d))
  dn := fun q d c => match q with | 0 => iprop(vCore fv d (Fin.cast nCore_zero c) ∗ oCore d (Fin.cast nCore_zero c) (resOf d (fv d)))
  go := fun q d c i => match q with
    | 0 => iprop(vTile fv d (Fin.cast nCore_zero c) (Fin.cast nSub_zero i) ∗ oTile d (Fin.cast nCore_zero c) (Fin.cast nSub_zero i) (fo d))
  td := fun q d c i => match q with
    | 0 => iprop(vTile fv d (Fin.cast nCore_zero c) (Fin.cast nSub_zero i) ∗ oTile d (Fin.cast nCore_zero c) (Fin.cast nSub_zero i) (resOf d (fv d)))
  x := fun _ _ => iprop(emp)

instance P_storable : (P (F := F) fv fo).IsStorable where
  st q d c := match q with
    | 0 => (inferInstance : BI.Storable (upEmb : UEmb _ 𝕄) iprop(vCore fv d (Fin.cast nCore_zero c) ∗ oCore d (Fin.cast nCore_zero c) (fo d)))
  dn q d c := match q with
    | 0 => (inferInstance : BI.Storable (upEmb : UEmb _ 𝕄) iprop(vCore fv d (Fin.cast nCore_zero c) ∗ oCore d (Fin.cast nCore_zero c) (resOf d (fv d))))
  go q d c i := match q with
    | 0 => (inferInstance : BI.Storable (upEmb : UEmb _ 𝕄) iprop(vTile fv d (Fin.cast nCore_zero c) (Fin.cast nSub_zero i) ∗ oTile d (Fin.cast nCore_zero c) (Fin.cast nSub_zero i) (fo d)))
  td q d c i := match q with
    | 0 => (inferInstance : BI.Storable (upEmb : UEmb _ 𝕄) iprop(vTile fv d (Fin.cast nCore_zero c) (Fin.cast nSub_zero i) ∗ oTile d (Fin.cast nCore_zero c) (Fin.cast nSub_zero i) (resOf d (fv d))))

end Payloads

end Cert.KernelIdeal.Sc
-- ==== Proof.Ke.Tile.lean ====
/- One vector subcore's task: the mask row fetched, the scaled row stored three times, the block written to its
   sixteen rows of the result. -/
module

public import proofs.«01_k».proof.Proof.Ke.Base

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ
local notation "vV" => (Memref.whole Cert.KernelIdeal.main_v1_scv : Memref Cert.KernelIdeal.sig Kind.scVector Space.hbm Cert.KernelIdeal.S8x1024 EltTy.f32)
local notation "oV" => (Memref.whole Cert.KernelIdeal.main_v3_scv : Memref Cert.KernelIdeal.sig Kind.scVector Space.hbm Cert.KernelIdeal.S512x3x1024 EltTy.f32)
local notation "sM" => (Memref.whole Cert.KernelIdeal.cc1_scratch0 : Memref Cert.KernelIdeal.sig Kind.scVector Space.vmem Cert.KernelIdeal.S1024 EltTy.f32)
local notation "sG" => (Memref.whole Cert.KernelIdeal.cc1_scratch1 : Memref Cert.KernelIdeal.sig Kind.scVector Space.vmem Cert.KernelIdeal.S3x1024 EltTy.f32)

section Tile

variable [FloatOps F]
variable (d : Dev nD) (L : grid1.Coords)

set_option maxRecDepth 100000 in
set_option maxHeartbeats 4000000 in
/-- One task's run: from the mask, its two buffers and its sixteen rows, the rows come back holding the task's numbers, the mask as it was. -/
theorem stores (fv : Buf (Elt F) (vLoc d)) (fo : Buf (Elt F) (oLoc d)) (q : PosShare TreeShare) (fs : Buf (Elt F) ((thr d L).loc cc1_scratch0))
    (fg : Buf (Elt F) ((thr d L).loc cc1_scratch1)) (O : CellTallies nD τ sig (HIx 1)) (W : Waits sig (HIx 1)) :
    iprop(((vV).view.loc (V d (cV L) (jV L)) ↦{q} fv) ∗ ((sM).view.loc (V d (cV L) (jV L)) ↦{fullShare} fs)
        ∗ ((sG).view.loc (V d (cV L) (jV L)) ↦{fullShare} fg)
        ∗ (bigSep Finset.univ fun r : Fin 16 => (oRowK L r).view.loc (V d (cV L) (jV L)) ↦[(oRowK L r).view.set]{fullShare} fo)
        ∗ semVal ((V d (cV L) (jV L)), SemLoc.dma cc1_scoped0.sem) 0
        ∗ semVal ((V d (cV L) (jV L)), SemLoc.dma cc1_scratch2.sem) 0
        ∗ Transfers.MayWaits (V d (cV L) (jV L)) (default : HIx 1) O
        ∗ owes (V d (cV L) (jV L)) O W)
      ⊢ (wp frame (wpE (defs₀ (F := F)) 𝒱₀ (V d (cV L) (jV L)) none) Set.univ
          (cc1__sc_seg_body L vV (Memref.isWhole_whole _) oV (Memref.isWhole_whole _) sM (Memref.isWhole_whole _) sG (Memref.isWhole_whole _)
            cc1_scratch2 cc1_scoped0)
          fun _ => iprop(((vV).view.loc (V d (cV L) (jV L)) ↦{q} fv) ∗ (∃ f, (sM).view.loc (V d (cV L) (jV L)) ↦{fullShare} f)
        ∗ (∃ f, (sG).view.loc (V d (cV L) (jV L)) ↦{fullShare} f)
        ∗ (bigSep Finset.univ fun r : Fin 16 => (oRowK L r).view.loc (V d (cV L) (jV L)) ↦[(oRowK L r).view.set]{fullShare} landed d L fv fo r)
        ∗ semVal ((V d (cV L) (jV L)), SemLoc.dma cc1_scoped0.sem) 0
        ∗ semVal ((V d (cV L) (jV L)), SemLoc.dma cc1_scratch2.sem) 0
        ∗ ∃ W', owes (V d (cV L) (jV L)) O W') : sProp 𝕄) := by
  iintro ⟨Hv, Hm, Hg, Ho, Hsem, Hs2, Hmw, HO⟩
  imod (Transfers.batch_alloc' (Lvl := ℕ) (countersEmb (U := UU)) (thr d L) (default : HIx 1) (unit16 L) (deliv d L fv fo) (sm := .dma cc1_scratch2.sem) (E := Set.univ)) $$ Hs2 with HB
  sl_unfold [cc1__sc_seg_body]
  -- the body up to the first copy out: nothing in hand holds its destination yet
  sl_exec
  ihave Hg' := (settle d L _ _ (chan ((sM).view.write (Elt F) fs (rowOf d L fv) Finset.univ)) ?h1 ?h2 (chan (rowOf d L fv))
    (congrArg chan (View.write_whole_univ cc1_scratch0 fs (rowOf d L fv)))) $$ Hg
  case h2 => rfl
  case h1 =>
    sl_unfold_run_names
    repeat' (refine List.forall_mem_cons.2 ⟨lane_fits ((sM).view.write (Elt F) fs (rowOf d L fv) Finset.univ) _ _ (Fin.forall_fin_two.2 ⟨by decide, by decide⟩) _ rfl, ?_⟩)
    exact fun _ h => absurd h List.not_mem_nil
  ihave Hg'' := (Entails.of_eq ((block_toks d L (chan (rowOf d L fv))).trans (congrArg _ (bigSep_16 _)))) $$ Hg'
  icases Hg'' with ⟨Hgd, Hgt⟩
  ihave Ho' := (Entails.of_eq (bigSep_16 _)) $$ Ho
  icases Ho' with ⟨Ho0, Ho1, Ho2, Ho3, Ho4, Ho5, Ho6, Ho7, Ho8, Ho9, Ho10, Ho11, Ho12, Ho13, Ho14, Ho15⟩
  icases Hgt with ⟨Hg0, Hgt⟩
  sl_exec
  icases Hgt with ⟨Hg1, Hgt⟩
  sl_exec
  icases Hgt with ⟨Hg2, Hgt⟩
  sl_exec
  icases Hgt with ⟨Hg3, Hgt⟩
  sl_exec
  icases Hgt with ⟨Hg4, Hgt⟩
  sl_exec
  icases Hgt with ⟨Hg5, Hgt⟩
  sl_exec
  icases Hgt with ⟨Hg6, Hgt⟩
  sl_exec
  icases Hgt with ⟨Hg7, Hgt⟩
  sl_exec
  icases Hgt with ⟨Hg8, Hgt⟩
  sl_exec
  icases Hgt with ⟨Hg9, Hgt⟩
  sl_exec
  icases Hgt with ⟨Hg10, Hgt⟩
  sl_exec
  icases Hgt with ⟨Hg11, Hgt⟩
  sl_exec
  icases Hgt with ⟨Hg12, Hgt⟩
  sl_exec
  icases Hgt with ⟨Hg13, Hgt⟩
  sl_exec
  icases Hgt with ⟨Hg14, Hgt⟩
  sl_exec
  sl_exec
  sl_step
  isplitl [Hv]; · iexact Hv
  isplitl [Hm]; · iexists _; iexact Hm
  isplitl [Hgd HB_src0 HB_src1 HB_src2 HB_src3 HB_src4 HB_src5 HB_src6 HB_src7 HB_src8 HB_src9 HB_src10 HB_src11 HB_src12 HB_src13 HB_src14 HB_src15]
  · iexists (chan (rowOf d L fv))
    iapply (Entails.of_eq ((block_toks d L (chan (rowOf d L fv))).trans (congrArg _ (bigSep_16 _))).symm)
    isplitl [Hgd]; · iexact Hgd
    isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    iexact HB_src15
  isplitl [HB_dst0 HB_dst1 HB_dst2 HB_dst3 HB_dst4 HB_dst5 HB_dst6 HB_dst7 HB_dst8 HB_dst9 HB_dst10 HB_dst11 HB_dst12 HB_dst13 HB_dst14 HB_dst15]
  · iapply (Entails.of_eq (bigSep_16 (fun r : Fin 16 => iprop((oRowK L r).view.loc (V d (cV L) (jV L)) ↦[(oRowK L r).view.set]{fullShare} landed d L fv fo r))).symm)
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    isplitl [HB_dst11]; · iexact HB_dst11
    isplitl [HB_dst12]; · iexact HB_dst12
    isplitl [HB_dst13]; · iexact HB_dst13
    isplitl [HB_dst14]; · iexact HB_dst14
    iexact HB_dst15
  isplitl [Hsem]; · iexact Hsem
  isplitl [HB]; · iexact HB
  iexists _; iexact HO

end Tile

end Cert.KernelIdeal.Sc
-- ==== Proof.Ke.Obl.lean ====
/- A vector subcore's task, from what the launch hands it to what it gives back. -/
module

public import proofs.«01_k».proof.Proof.Ke.Tile

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ
local notation "vV" => (Memref.whole Cert.KernelIdeal.main_v1_scv : Memref Cert.KernelIdeal.sig Kind.scVector Space.hbm Cert.KernelIdeal.S8x1024 EltTy.f32)
local notation "oV" => (Memref.whole Cert.KernelIdeal.main_v3_scv : Memref Cert.KernelIdeal.sig Kind.scVector Space.hbm Cert.KernelIdeal.S512x3x1024 EltTy.f32)
local notation "sM" => (Memref.whole Cert.KernelIdeal.cc1_scratch0 : Memref Cert.KernelIdeal.sig Kind.scVector Space.vmem Cert.KernelIdeal.S1024 EltTy.f32)
local notation "sG" => (Memref.whole Cert.KernelIdeal.cc1_scratch1 : Memref Cert.KernelIdeal.sig Kind.scVector Space.vmem Cert.KernelIdeal.S3x1024 EltTy.f32)

section Obl

variable [FloatOps F]
variable (fv : (d : Dev nD) → Buf (Elt F) (vLoc d)) (fo : (d : Dev nD) → Buf (Elt F) (oLoc d))
variable (d : Dev nD) (L : grid1.Coords)

/-- The task's two DMA cells: the fetch's and the sixteen copies'. -/
abbrev cAcell (d : Dev nD) (L : grid1.Coords) : GSem nD τ sig := (V d (cV L) (jV L), .dma cc1_scoped0.sem)
abbrev cBcell (d : Dev nD) (L : grid1.Coords) : GSem nD τ sig := (V d (cV L) (jV L), .dma cc1_scratch2.sem)

theorem ownSems0_task :
    (ownSems0 (V d (cV L) (jV L)) : sProp 𝕄)
      = iprop(semVal (cAcell d L) 0 ∗ semVal (cBcell d L) 0
          ∗ bigSep (((ownCells (V d (cV L) (jV L))).erase (cAcell d L)).erase (cBcell d L)) fun g => semVal g 0) := by
  unfold SparseCore.Cfg.ownSems0
  rw [SparseCore.bigSep_erase' ((mem_ownCells (g := cAcell d L)).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scratch2.sem : SemLoc sig).isScoped .scVector = true; decide⟩⟩)]

/-- The subcore's own buffers are the two scratches, each at some contents, together with the rest. -/
theorem ownBufs_task :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem rows_in (f : Buf (Elt F) (oLoc d)) :
    (oTile d (cL L) (iL L) f : sProp 𝕄)
      = bigSep Finset.univ fun r : Fin 16 => (oRowK L r).view.loc (V d (cV L) (jV L)) ↦[(oRowK L r).view.set]{fullShare} f :=
  bigSep_congr fun r _ => (pts_oRow d L r f).symm

theorem rows_out (v : Buf (Elt F) (vLoc d)) (f : Buf (Elt F) (oLoc d)) :
    (bigSep Finset.univ fun r : Fin 16 => (oRowK L r).view.loc (V d (cV L) (jV L)) ↦[(oRowK L r).view.set]{fullShare} landed d L v f r)
      = (oTile d (cL L) (iL L) (resOf d v) : sProp 𝕄) :=
  bigSep_congr fun r _ => pts_landed d L v f r

/-- The task on vector subcore `(L 0, L 1)` of device `d`: its rows come back at the result's. -/
theorem task_body (hF : (K (F := F)).Facts) (O : CellTallies nD τ sig (HIx 1)) (W : Waits sig (HIx 1)) (hO : ∀ g, O g none = 0) :
    iprop(levAts (K (F := F)).L (K (F := F)).lev ∗ emp
        ∗ (vTile fv d (cL L) (iL L) ∗ oTile d (cL L) (iL L) (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_seg_body L vV (Memref.isWhole_whole _) oV (Memref.isWhole_whole _) sM (Memref.isWhole_whole _) sG (Memref.isWhole_whole _)
            cc1_scratch2 cc1_scoped0)
          fun _ => iprop((vTile fv d (cL L) (iL L) ∗ oTile d (cL L) (iL L) (resOf d (fv d)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_task, ownBufs_task, rows_in]
  iintro ⟨#Hlv, -, ⟨Hv, Ho⟩, ⟨⟨%fs, Hs⟩, ⟨%fg, Hg⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame (wpE (defs₀ (F := F)) 𝒱₀ (V d (cV L) (jV L)) none) Set.univ)
  isplitl [Hv Ho Hs Hg HsemA HsemB Hmw HO]
  · iapply (stores d L (fv d) (fo d) (tSh (cL L) (iL L)) fs fg O W)
    isplitl [Hv]; · iexact Hv
    isplitl [Hs]; · iexact Hs
    isplitl [Hg]; · iexact Hg
    isplitl [Ho]; · iexact Ho
    isplitl [HsemA]; · iexact HsemA
    isplitl [HsemB]; · iexact HsemB
    isplitl [Hmw]; · iexact Hmw
    iexact HO
  iintro %_ ⟨Hv, ⟨%f1, Hs⟩, ⟨%f2, Hg⟩, Ho, HsemA, HsemB, %W', HO⟩
  isplitl [Hv Ho]
  · isplitl [Hv]; · iexact Hv
    iapply (Entails.of_eq (rows_out d L (fv d) (fo d))); iexact Ho
  isplitl [Hs Hg Hbufs]
  · isplitl [Hs]; · iexists f1; iexact Hs
    isplitl [Hg]; · iexists f2; iexact Hg
    iexact Hbufs
  isplitl [HsemA HsemB Hsems]
  · isplitl [HsemA]; · iexact HsemA
    isplitl [HsemB]; · iexact HsemB
    iexact Hsems
  iexists W'; isplitr
  swap; · iexact HO
  ipureintro; intro p _
  rcases p.2 with _ | q
  · exact .inr (.inl rfl)
  · exact .inr (.inr (congrArg some (Subsingleton.elim q 0)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_seg_body (coordsV c s)
          vV (Memref.isWhole_whole _) oV (Memref.isWhole_whole _) sM (Memref.isWhole_whole _) sG (Memref.isWhole_whole _)
            cc1_scratch2 cc1_scoped0) ⟨⟩ c s := rfl

set_option maxRecDepth 100000 in
/-- Every tile's task meets what the launch asks of it. -/
theorem tileObl (hF : (K (F := F)).Facts) : (K (F := F)).TileObl (D (F := F)) 𝒱 (P fv fo) v₀ 0 := by
  intro d c i O W hO _ _
  simp only [show (P fv fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_body fv fo d (coordsV ⟨_, hci.1⟩ ⟨_, hci.2⟩) hF O W hO

end Obl

end Cert.KernelIdeal.Sc
-- ==== Proof.Ke.Split.lean ====
/- The mask and the result dealt to the SparseCores and their tiles, and collected back. -/
module

public import proofs.«01_k».proof.Proof.Ke.Base

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ
local notation "vV" => (Memref.whole Cert.KernelIdeal.main_v1_scv : Memref Cert.KernelIdeal.sig Kind.scVector Space.hbm Cert.KernelIdeal.S8x1024 EltTy.f32)
local notation "oV" => (Memref.whole Cert.KernelIdeal.main_v3_scv : Memref Cert.KernelIdeal.sig Kind.scVector Space.hbm Cert.KernelIdeal.S512x3x1024 EltTy.f32)
local notation "sM" => (Memref.whole Cert.KernelIdeal.cc1_scratch0 : Memref Cert.KernelIdeal.sig Kind.scVector Space.vmem Cert.KernelIdeal.S1024 EltTy.f32)
local notation "sG" => (Memref.whole Cert.KernelIdeal.cc1_scratch1 : Memref Cert.KernelIdeal.sig Kind.scVector Space.vmem Cert.KernelIdeal.S3x1024 EltTy.f32)

variable [FloatOps F] (fv : (d : Dev nD) → Buf (Elt F) (vLoc d)) (fo : (d : Dev nD) → Buf (Elt F) (oLoc d))

/-! ## The result's rows -/

theorem rowSet_disjoint : ∀ k ∈ (Finset.univ : Finset (Fin 2 × Fin 16 × Fin 16)), ∀ k' ∈ (Finset.univ : Finset (Fin 2 × Fin 16 × Fin 16)), k ≠ k' →
    Disjoint (rowSet k.1 k.2.1 k.2.2) (rowSet k'.1 k'.2.1 k'.2.2) := by
  rintro ⟨c, i, r⟩ - ⟨c', i', r'⟩ - h
  rw [Finset.disjoint_left]
  intro y hy hy'
  have e := (Finset.mem_filter.mp hy).2
  have e' := (Finset.mem_filter.mp hy').2
  refine h ?_
  have hc := c.isLt; have hc' := c'.isLt; have hi := i.isLt; have hi' := i'.isLt; have hr := r.isLt; have hr' := r'.isLt
  have e1 : c.val = c'.val := by dsimp only at e e'; omega
  have e2 : i.val = i'.val := by dsimp only at e e'; omega
  have e3 : r.val = r'.val := by dsimp only at e e'; omega
  rw [Fin.ext e1, Fin.ext e2, Fin.ext e3]

theorem rowSet_cover : (Finset.univ : Finset (Fin 2 × Fin 16 × Fin 16)).biUnion (fun k => rowSet k.1 k.2.1 k.2.2) = Finset.univ := by
  ext y
  simp only [Finset.mem_biUnion, Finset.mem_univ, true_and, iff_true]
  have hy : (y 0).val < 512 := (y 0).isLt
  refine ⟨(⟨(y 0).val / 16 % 2, by omega⟩, ⟨(y 0).val / 32, by omega⟩, ⟨(y 0).val % 16, by omega⟩), Finset.mem_filter.mpr ⟨Finset.mem_univ y, ?_⟩⟩
  show (y 0).val = 32 * ((y 0).val / 32) + 16 * ((y 0).val / 16 % 2) + (y 0).val % 16
  omega

/-- The result whole is every task's rows. -/
theorem oPts_rows (d : Dev nD) (f : Buf (Elt F) (oLoc d)) :
    (oLoc d ↦{fullShare} f : sProp 𝕄) = bigSep Finset.univ fun c : Fin 2 => oCore d c f := by
  have h : (oLoc d ↦{fullShare} f : sProp 𝕄) = bigSep Finset.univ fun k : Fin 2 × Fin 16 × Fin 16 => oLoc d ↦[rowSet k.1 k.2.1 k.2.2]{fullShare} f := by
    rw [← pointsTo_biUnion Finset.univ (ℓ := oLoc d) (fun k : Fin 2 × Fin 16 × Fin 16 => rowSet k.1 k.2.1 k.2.2) rowSet_disjoint, rowSet_cover]
    try rfl
  rw [h, bigSep_univ_prod]
  refine bigSep_congr fun c _ => ?_
  exact bigSep_univ_prod _

/-- The mask whole is a share for each SparseCore and what is left over. -/
theorem vPts_cores (d : Dev nD) :
    (vLoc d ↦{fullShare} fv d : sProp 𝕄) = iprop((vLoc d ↦{Transfers.shareDrop fullShare 2} fv d) ∗ bigSep Finset.univ fun c : Fin 2 => vCore fv d c) :=
  BI.Entails.antisymm (Transfers.pointsTo_toks_split fullShare 2) (Transfers.pointsTo_toks_join fullShare 2)

/-- A SparseCore's share is a share for each tile and what is left over. -/
theorem vCore_tiles (d : Dev nD) (c : Fin 2) :
    (vCore fv d c : sProp 𝕄) = iprop((vLoc d ↦{Transfers.shareDrop (cSh c) 16} fv d) ∗ bigSep Finset.univ fun i : Fin 16 => vTile fv d c i) :=
  BI.Entails.antisymm (Transfers.pointsTo_toks_split (cSh c) 16) (Transfers.pointsTo_toks_join (cSh c) 16)

/-! ## The deals -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore deals its tiles their shares and rows, and collects them back. -/
theorem vecSplit : (K (F := F)).VecSplit' (P fv fo) 0 := by
  intro d c
  show iprop(vCore fv d (Fin.cast nCore_zero c) ∗ oCore d (Fin.cast nCore_zero c) (fo d)) ⊢ |={Set.univ}=> iprop(
      (bigSep Finset.univ fun i : Fin ((K (F := F)).nSub 0) => iprop(vTile fv d (Fin.cast nCore_zero c) (Fin.cast nSub_zero i) ∗ oTile d (Fin.cast nCore_zero c) (Fin.cast nSub_zero i) (fo d)))
      ∗ ((bigSep Finset.univ fun i : Fin ((K (F := F)).nSub 0) => iprop(vTile fv d (Fin.cast nCore_zero c) (Fin.cast nSub_zero i) ∗ oTile d (Fin.cast nCore_zero c) (Fin.cast nSub_zero i) (resOf d (fv d))))
          -∗ iprop(vCore fv d (Fin.cast nCore_zero c) ∗ oCore d (Fin.cast nCore_zero c) (resOf d (fv d)))))
  generalize Fin.cast nCore_zero c = c'
  rw [bigSep_tasks (F := F) (fun i => iprop(vTile fv d c' i ∗ oTile d c' i (fo d))),
    bigSep_tasks (F := F) (fun i => iprop(vTile fv d c' i ∗ oTile d c' i (resOf d (fv d)))), bigSep_sep', bigSep_sep', vCore_tiles]
  iintro ⟨⟨Hd, Ht⟩, Ho⟩; imodintro
  isplitl [Ht Ho]
  · isplitl [Ht]; · iexact Ht
    iexact Ho
  iintro ⟨Ht, Ho⟩
  isplitl [Hd Ht]
  · isplitl [Hd]; · iexact Hd
    iexact Ht
  iexact Ho

theorem st_eq (d : Dev nD) :
    (bigSep Finset.univ fun c : Fin ((K (F := F)).nCore 0) => (P fv fo).st 0 d c)
      = iprop((bigSep Finset.univ fun c : Fin 2 => vCore fv d c) ∗ (oLoc d ↦{fullShare} fo d)) := by
  rw [oPts_rows, ← bigSep_sep']
  exact bigSep_cores (F := F) fun c => iprop(vCore fv d c ∗ oCore d c (fo d))

theorem dn_eq (d : Dev nD) :
    (bigSep Finset.univ fun c : Fin ((K (F := F)).nCore 0) => (P fv fo).dn 0 d c)
      = iprop((bigSep Finset.univ fun c : Fin 2 => vCore fv d c) ∗ (oLoc d ↦{fullShare} resOf d (fv d))) := by
  rw [oPts_rows, ← bigSep_sep']
  exact bigSep_cores (F := F) fun c => iprop(vCore fv d c ∗ oCore d c (resOf d (fv d)))

end Cert.KernelIdeal.Sc
-- ==== Proof.Ke.Region.lean ====
/- The TensorCore call of the kernel: its body, what it leaves in its two results, and the call as a step of @main taken
   while the core still owes the SparseCore call's signals. -/
module

public import proofs.«01_k».proof.Proof.Ke.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit

@[expose] public section

noncomputable section

namespace Cert.KernelIdeal.Sc

open Cert.KernelIdeal Cert.KernelIdeal.Gen

open Idealize.ShloMosaic Idealize.ShloMosaic.TcCoe
open Idealize.ShloMosaic.Pipeline (Dat BodyObligation)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ

variable [FloatOps F]

/-- The random bits, as the body's sequence computes them. -/
def bitsF : IVec S512x256 32 :=
  k0_pay37 (k0_pay34 (k0_pay21 k0_pay10 k0_pay11) (k0_pay22 k0_pay10 k0_pay11) (k0_pay23 k0_pay10 k0_pay11))
    (k0_pay35 (k0_pay21 k0_pay10 k0_pay11) (k0_pay22 k0_pay10 k0_pay11) (k0_pay23 k0_pay10 k0_pay11))
    (k0_pay36 (k0_pay21 k0_pay10 k0_pay11) (k0_pay22 k0_pay10 k0_pay11) (k0_pay23 k0_pay10 k0_pay11))

/-- What the body stores in `slots`, and in `bidx`. -/
def slotsF : Vec F S512x256 .f32 := k0_pay42 (k0_pay38 (F := F) bitsF) (k0_pay39 (F := F) bitsF) (k0_pay40 (F := F) bitsF) (k0_pay41 (F := F) bitsF)
def bidxF : Vec F S1x512 .i32 := k0_pay1 (iota .tc S1x512 32 [1] iota_S1x512_d1_w32) 64#32 k0_pay43 k0_pay44

/-- One store over a whole buffer leaves what was stored. -/
theorem read_one {κ : Kind} {sp : Space} {s : Shape} {e : EltTy} (v : View sig κ sp s e) (f : v.ty.Contents (Elt F)) (o : Fin s.rank → ℕ) (inb : ∀ a, o a + s.size a ≤ s.size a) (p : s.Idx → Elt F e)
    (ho : o = fun _ => 0) : v.read (Elt F) (v.writes (Elt F) f [⟨Rect.unit (s := s) o s.size inb, p⟩]) = p := by
  subst ho
  refine (View.read_writes_eq_canon v f _ fun y => ⟨_, List.mem_singleton.2 rfl, ?_⟩).trans (View.canon_unit_zero rfl inb p)
  rw [Rect.mem_set_unit]
  exact fun a => ⟨Nat.zero_le _, by simpa using (y a).isLt⟩

set_option maxHeartbeats 1000000 in
/-- The body, from two buffers at anything, leaves the payloads in them. -/
theorem tc_body (c : Dev nD) (E : Set ℕ) (M0 : Memref sig .tc .vmem S512x256 .f32) (h0 : M0.IsWhole) (M1 : Memref sig .tc .vmem S1x512 .i32) (h1 : M1.IsWhole)
    (Q : PUnit → sProp 𝕄) :
    iprop((∃ d, owns (c : Thread nD τ) M0 fullShare d) ∗ (∃ d, owns (c : Thread nD τ) M1 fullShare d)
        ∗ (iprop(owns (c : Thread nD τ) M0 fullShare (slotsF (F := F)) ∗ owns (c : Thread nD τ) M1 fullShare (bidxF (F := F))) -∗ Q ⟨⟩))
      ⊢ wp frame (wpE (defs₀ (F := F)) 𝒱₀ c none) E (cc0__tc_body M0 h0 M1 h1) Q := by
  simp only [cc0__tc_body_eq_skeleton]; unfold cc0__tc_body_skel
  simp only [k0_part1_eq_skeleton, k0_part2_eq_skeleton, k0_part3_eq_skeleton, k0_part4_eq_skeleton, k0_part5_eq_skeleton, k0_part6_eq_skeleton]
  unfold owns
  iintro ⟨⟨%d0, %f0, -, H0⟩, ⟨%d1, %f1, -, H1⟩, Hk⟩
  sl_exec
  sl_step
  iapply Hk
  isplitl [H0]
  · iexists _; isplitr
    swap; · iexact H0
    ipureintro
    exact read_one _ _ _ _ _ (by funext a; fin_cases a <;> rfl)
  iexists _; isplitr
  swap; · iexact H1
  ipureintro
  exact read_one _ _ _ _ _ (by funext a; fin_cases a <;> rfl)

/-! ## The call's proof data -/

variable (f0 : (d : Dev nD) → Buf (Elt F) ((SparseCore.T d : Thread nD τ).loc main_v2_0)) (f1 : (d : Dev nD) → Buf (Elt F) ((SparseCore.T d : Thread nD τ).loc main_v2_1)) (lim : ℕ)

/-- The proof data: the two arrays as the call finds them, the payloads after the body, the SparseCore call's signals
    owed throughout. -/
def dat (c : Dev nD) : Dat τ (Elt F) (HIx 1) ℕ UU ℕ cfg0 c where
  A w := match w with
    | ⟨0, _⟩ => f0 c
    | ⟨1, _⟩ => f1 c
  after w _ := match w with
    | ⟨0, _⟩ => slotsF
    | ⟨1, _⟩ => bidxF
  Φ _ := Pipeline.scopedRest (Ix := HIx 1) (Name := ℕ) (U := UU) (Lvl := ℕ) (Val := Elt F) spec0 c
  q _ := fullShare
  owed _ := (K (F := F)).Otc c 0
  recorded _ := {p | (K (F := F)).lev (SparseCore.T c, p.1) p.2 ≤ lim}

theorem after_0 (c : Dev nD) (t) : (dat f0 f1 lim c).after 0 t = slotsF := by dsimp only [dat]
theorem after_1 (c : Dev nD) (t) : (dat f0 f1 lim c).after 1 t = bidxF := by dsimp only [dat]

/-- The body meets the pipeline's obligation. -/
theorem body_obligation (c : Dev nD) : BodyObligation (dat f0 f1 lim c) (defs₀ (F := F)) 𝒱₀ none Set.univ := fun t => by
  obtain rfl := fin_N0 t
  rw [bigSep_W0, bigSep_W0, after_0, after_1,
    show (dat f0 f1 lim c).Φ t0_0.succ = (dat f0 f1 lim c).Φ t0_0.castSucc from rfl,
    show (dat f0 f1 lim c).owesAt none t0_0.succ = (dat f0 f1 lim c).owesAt none t0_0.castSucc from rfl]
  iintro ⟨HΦ, Howes, ⟨%d0, H0⟩, ⟨%d1, H1⟩⟩
  iapply (tc_body c Set.univ _ _ _ _ _)
  isplitl [H0]; · iexists _; iexact H0
  isplitl [H1]; · iexists _; iexact H1
  iintro ⟨H0, H1⟩
  isplitl [HΦ]; · iexact HΦ
  isplitl [Howes]; · iexact Howes
  isplitl [H0]; · iexact H0
  iexact H1

/-- The two arrays after the call. -/
theorem arr_0 (c : Dev nD) : (dat f0 f1 lim c).arrAt 0 cfg0.N = (slotsF : Vec F S512x256 .f32) := by
  refine (dat f0 f1 lim c).arrAt_eq_of_after_last 0 t0_0 (by decide +kernel) _ fun j => ?_
  blk_simp
  rw [after_0]
theorem arr_1 (c : Dev nD) : (dat f0 f1 lim c).arrAt 1 cfg0.N = (bidxF : Vec F S1x512 .i32) := by
  refine (dat f0 f1 lim c).arrAt_eq_of_after_last 1 t0_0 (by decide +kernel) _ fun j => ?_
  blk_simp
  rw [after_1]

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat f0 f1 lim c

/-- The call's two arrays, whole, one by one. -/
theorem arrays_two (c : Dev nD) (G : (w : Fin 2) → Buf (Elt F) ((cfg0.win w).arr.view.loc (c.tc : Thread nD τ))) :
    ((pdats f0 f1 lim 0 c).arrays G : sProp 𝕄)
      = iprop(((SparseCore.T c : Thread nD τ).loc main_v2_0 ↦{fullShare} G 0) ∗ ((SparseCore.T c : Thread nD τ).loc main_v2_1 ↦{fullShare} G 1)) := by
  rw [Pipeline.arrays_eq (Pipeline.pin (pcfgs (F := F)) adm) (pdats f0 f1 lim) 0 c arr_whole0 ((pdats f0 f1 lim 0 c).share_full fun _ => rfl) G]
  exact bigSep_W0 _

theorem Otc_none (c : Dev nD) (g : GSem nD τ sig) : (K (F := F)).Otc c 0 g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun i _ => by rw [tallyAt_apply, if_neg (fun e => nomatch e.2)]
  · rfl

set_option backward.isDefEq.respectTransparency.types false in
/-- The call as a step of @main, over its two arrays and what the core owes. -/
def reg : Pipeline.RegionSeg (pcfgs (F := F)) adm (pdats f0 f1 lim) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation f0 f1 lim c).loose
  hwaits c := Pipeline.cellsWaits_intro _ (pdats f0 f1 lim) none 0 c fun w s t => (K (F := F)).mayWait_none _ (Otc_none c)
  pre c := iprop(((SparseCore.T c : Thread nD τ).loc main_v2_0 ↦{fullShare} f0 c) ∗ ((SparseCore.T c : Thread nD τ).loc main_v2_1 ↦{fullShare} f1 c)
    ∗ ∃ W, ⌜(K (F := F)).WBelow (SparseCore.T c) W lim⌝ ∗ owes (SparseCore.T c) ((K (F := F)).Otc c 0) W)
  post c := iprop(((SparseCore.T c : Thread nD τ).loc main_v2_0 ↦{fullShare} (slotsF : Vec F S512x256 .f32)) ∗ ((SparseCore.T c : Thread nD τ).loc main_v2_1 ↦{fullShare} (bidxF : Vec F S1x512 .i32))
    ∗ ∃ W, ⌜(K (F := F)).WBelow (SparseCore.T c) W lim⌝ ∗ owes (SparseCore.T c) ((K (F := F)).Otc c 0) W)
  X _ := BI.emp
  Y _ := BI.emp
  Z _ := BI.emp
  hentry c := by
    rw [Pipeline.ownSems0_none, arrays_two]
    iintro ⟨⟨H0, H1, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats f0 f1 lim 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats f0 f1 lim 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have e0 : (pdats f0 f1 lim 0 c).arrAt 0 (Pipeline.pin (pcfgs (F := F)) adm 0).N = (slotsF : Vec F S512x256 .f32) := arr_0 f0 f1 lim c
    have e1 : (pdats f0 f1 lim 0 c).arrAt 1 (Pipeline.pin (pcfgs (F := F)) adm 0).N = (bidxF : Vec F S1x512 .i32) := arr_1 f0 f1 lim c
    rw [arrays_two, e0, e1]
    iintro ⟨⟨H0, H1⟩, HO, -, -⟩
    imodintro
    isplitl [H0]; · iexact H0
    isplitl [H1]; · iexact H1
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

/-! ## The pipeline's part of the resource algebra -/

abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

/-- The ghost state the call takes. -/
abbrev ghost (c : Dev nD) : sProp 𝕄 := iprop(Pipeline.cellsGhost (Pipeline.pin (pcfgs (F := F)) adm) EP 0 c ∗ Pipeline.toksInit (Pipeline.pin (pcfgs (F := F)) adm) EP 0 c)

theorem lift_entry : (Prog.lift (.customCall (SparseCore.inner (Pipeline.entry 0)) ()) : Prog (TpuEff nD τ sig (Elt F) (SparseCore.Sig (ΛP (F := F)) 1) .tc) PUnit)
    = SparseCore.liftProg (.op (.customCall (Pipeline.entry (0 : Fin 1)) ()) .ret) := rfl

/-- The call, run. -/
theorem tc_call (c : Dev nD) (Q : PUnit → sProp 𝕄) :
    iprop((iprop(boundary (SparseCore.T c) ∗ (reg f0 f1 lim).post c) -∗ Q ⟨⟩) ∗ boundary (SparseCore.T c) ∗ (reg f0 f1 lim).pre c ∗ levAts (K (F := F)).L (K (F := F)).lev ∗ ghost c)
      ⊢ wp frame (wpE ((K (F := F)).defs (D (F := F))) 𝒱 (SparseCore.T c) none) Set.univ (Prog.lift (.customCall (SparseCore.inner (Pipeline.entry 0)) ())) Q := by
  rw [lift_entry]
  iintro ⟨Hk, Hb, Hp, Hl, Hg, Ht⟩
  iapply ((K (F := F)).wp_liftProg (D (F := F)) 𝒱 (SparseCore.T c) Set.univ none (.op (.customCall (Pipeline.entry 0) ()) .ret) Q)
  iapply (Pipeline.RegionSeg.wp (pcfgs (F := F)) adm (pdats f0 f1 lim) none cellOf_inj EP defs₀ 𝒱₀ (K (F := F)).L (K (F := F)).lev (reg f0 f1 lim) c none (fun _ h => nomatch h) .ret Q)
  isplitl [Hk]
  · iintro H
    rw [wp_ret]; imodintro
    iapply Hk; iexact H
  isplitl [Hb]; · iexact Hb
  isplitl [Hp]; · iexact Hp
  isplitl [Hl]; · iexact Hl
  isplitl [Hg] <;> iassumption

end Cert.KernelIdeal.Sc

end
-- ==== Proof.Ke.Main.lean ====
/- The kernel's run: @main on the TensorCore — the mask as numbers, the TensorCore call, the SparseCore call, the last
   reshape —, and what the machine holds at the end. -/
module

public import proofs.«01_k».proof.Proof.Ke.Obl
public import proofs.«01_k».proof.Proof.Ke.Split
public import proofs.«01_k».proof.Proof.Ke.Region

@[expose] public section

noncomputable section

namespace Cert.KernelIdeal.Sc

open Cert.KernelIdeal Cert.KernelIdeal.Gen

open Idealize.ShloMosaic Idealize.ShloMosaic.TcCoe Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type}

local notation "𝕄" => MT nD τ sig (HIx 1) (Elt F) ℕ UU ℕ

variable [FloatOps F]
variable (m : (ℓ : Loc nD τ sig) → Buf (Elt F) ℓ) (ρ : Dev nD → PrngReg)

abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev b1' : DevRef τ sig := Proc.devRef .tc (main_v2_1 : Ref sig .tc)
abbrev r4' : DevRef τ sig := Proc.devRef .tc (main_v4 : Ref sig .tc)

/-- The host's three lines. -/
abbrev opA : HloOp τ sig (Elt F) := StableHlo.reshape main_arg1 main_v0 (rfl : (.i1 : EltTy) = .i1) shapeCasts_S8x32x32_S8x1024
abbrev opB : HloOp τ sig (Elt F) := StableHlo.unary main_v0 main_v1 (uitofp .f32 : (⟨S8x1024, .i1⟩ : BufTy).Contents (Elt F) → (⟨S8x1024, .f32⟩ : BufTy).Contents (Elt F))
abbrev opC : HloOp τ sig (Elt F) := StableHlo.reshape main_v2_1 main_v4 (rfl : (.i32 : EltTy) = .i32) shapeCasts_S1x512_S512

/-- The arrays at the launch; the row of batch numbers as the TensorCore call leaves it. -/
def V0 (d : Dev nD) : Valuation τ sig (Elt F) := fun b => m (d, b)
def V3 (d : Dev nD) : Valuation τ sig (Elt F) := Function.update (V0 m d) b1' (bidxF (F := F))

/-- The mask as numbers, the SparseCore call's argument; its result before the call. -/
def fv (d : Dev nD) : Buf (Elt F) (vLoc d) := StableHlo.after [opA (F := F), opB] (V0 m d) r1'
def fo (d : Dev nD) : Buf (Elt F) (oLoc d) := m (oLoc d)
/-- The batch numbers as @main returns them. -/
def bv (d : Dev nD) : Buf (Elt F) ((SparseCore.T d : Thread nD τ).loc main_v4) := StableHlo.after [opC (F := F)] (V3 m d) r4'

omit [FloatOps F] in
theorem held_two (d : Dev nD) {a b : Ref sig .tc} (h : (Proc.devRef .tc a : DevRef τ sig) ≠ Proc.devRef .tc b) (W : Valuation τ sig (Elt F)) :
    (held (T d) {Proc.devRef .tc a, Proc.devRef .tc b} W : sProp 𝕄)
      = iprop(((SparseCore.T d : Thread nD τ).loc a ↦{fullShare} W (Proc.devRef .tc a)) ∗ (SparseCore.T d : Thread nD τ).loc b ↦{fullShare} W (Proc.devRef .tc b)) := by
  unfold held
  rw [SparseCore.bigSep_insert' (by rwa [Finset.mem_singleton]), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d : Thread nD τ).loc main_arg0 ↦{fullShare} W main_arg0) ∗ ((SparseCore.T d : Thread nD τ).loc main_arg1 ↦{fullShare} W main_arg1)
        ∗ ((SparseCore.T d : Thread nD τ).loc main_v0 ↦{fullShare} W main_v0) ∗ ((SparseCore.T d : Thread nD τ).loc main_v1 ↦{fullShare} W main_v1)
        ∗ ((SparseCore.T d : Thread nD τ).loc main_v2_0 ↦{fullShare} W main_v2_0) ∗ ((SparseCore.T d : Thread nD τ).loc main_v2_1 ↦{fullShare} W main_v2_1)
        ∗ ((SparseCore.T d : Thread nD τ).loc main_v3 ↦{fullShare} W main_v3) ∗ (SparseCore.T d : Thread nD τ).loc main_v4 ↦{fullShare} W main_v4) := by
  unfold unscopedBufs
  rw [show (Finset.univ.filter fun b : Ref sig .tc => ¬ b.isScoped) = {main_arg0, main_arg1, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The launch element: the handshakes' rounds and the TensorCore pipeline's -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (fv m) (fo m)).x q thr) := by
  unfold u₀
  iintro Hu
  ihave H := (ownU_pair (initOf (K (F := F)).hsCells (K (F := F)).hsToks) _) $$ Hu
  icases H with ⟨HH, HR⟩
  ihave HR' := (show (BI.own (embR (initOf (Pipeline.cells (Pipeline.pin (pcfgs (F := F)) adm) cellOf_inj) (Pipeline.launchToks (Pipeline.pin (pcfgs (F := F)) adm) cellOf_inj), (1 : Counters))) : sProp 𝕄) ⊢ (BI.own ((EP (F := F)) (initOf (Pipeline.cells (Pipeline.pin (pcfgs (F := F)) adm) cellOf_inj) (Pipeline.launchToks (Pipeline.pin (pcfgs (F := F)) adm) cellOf_inj))) : sProp 𝕄) from BI.Entails.refl _) $$ HR
  imod (Pipeline.fund_ghost (Pipeline.pin (pcfgs (F := F)) adm) EP cellOf_inj) $$ HR' with ⟨Hg, Ht⟩
  imodintro
  isplitl [HH]; · iexact HH
  isplitl [Hg Ht]
  · rw [bigSep_sep']
    rw [show (fun c : Dev nD => bigSep Finset.univ fun p : Fin 1 => Pipeline.cellsGhost (Pipeline.pin (pcfgs (F := F)) adm) (EP (F := F)) p c)
        = fun c => Pipeline.cellsGhost (Pipeline.pin (pcfgs (F := F)) adm) (EP (F := F)) 0 c from funext fun c => bigSep_univ_of_subsingleton (0 : Fin 1),
      show (fun c : Dev nD => bigSep Finset.univ fun p : Fin 1 => Pipeline.toksInit (Pipeline.pin (pcfgs (F := F)) adm) (EP (F := F)) p c)
        = fun c => Pipeline.toksInit (Pipeline.pin (pcfgs (F := F)) adm) (EP (F := F)) 0 c from funext fun c => bigSep_univ_of_subsingleton (0 : Fin 1)]
    isplitl [Hg] <;> iassumption
  rw [show (bigSep Finset.univ fun thr : Thread nD τ => bigSep Finset.univ fun q : Fin 1 => (P (fv m) (fo m)).x q thr) = bigSep Finset.univ fun _ => iprop(emp) from
    bigSep_congr fun _ _ => bigSep_univ_of_subsingleton (0 : Fin 1)]
  rw [show (bigSep Finset.univ fun _ : Thread nD τ => (iprop(emp) : sProp 𝕄)) = iprop(emp) from bigSep_emp_const _]
  iempintro

/-! ## @main on the TensorCore -/

/-- What @main leaves: its arguments as they were and its three results. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_v2_0 ↦{fullShare} (slotsF (F := F)))
    ∗ (oLoc d ↦{fullShare} resOf d (fv m d))
    ∗ (SparseCore.T d : Thread nD τ).loc main_v4 ↦{fullShare} bv m d)

theorem pre_open (f0 : (d : Dev nD) → Buf (Elt F) ((SparseCore.T d : Thread nD τ).loc main_v2_0)) (f1 : (d : Dev nD) → Buf (Elt F) ((SparseCore.T d : Thread nD τ).loc main_v2_1))
    (lim : ℕ) (d : Dev nD) : (reg f0 f1 lim).pre d = iprop(((SparseCore.T d : Thread nD τ).loc main_v2_0 ↦{fullShare} f0 d)
      ∗ ((SparseCore.T d : Thread nD τ).loc main_v2_1 ↦{fullShare} f1 d) ∗ ∃ W, ⌜(K (F := F)).WBelow (T d) W lim⌝ ∗ owes (T d) ((K (F := F)).Otc d 0) W) := rfl
theorem post_open (f0 : (d : Dev nD) → Buf (Elt F) ((SparseCore.T d : Thread nD τ).loc main_v2_0)) (f1 : (d : Dev nD) → Buf (Elt F) ((SparseCore.T d : Thread nD τ).loc main_v2_1))
    (lim : ℕ) (d : Dev nD) : (reg f0 f1 lim).post d = iprop(((SparseCore.T d : Thread nD τ).loc main_v2_0 ↦{fullShare} (slotsF (F := F)))
      ∗ ((SparseCore.T d : Thread nD τ).loc main_v2_1 ↦{fullShare} (bidxF (F := F))) ∗ ∃ W, ⌜(K (F := F)).WBelow (T d) W lim⌝ ∗ owes (T d) ((K (F := F)).Otc d 0) W) := rfl

theorem fv_open (d : Dev nD) : ((SparseCore.T d : Thread nD τ).loc main_v1 ↦{fullShare} (opB (F := F)).result ((opA (F := F)).result (V0 m d)) (Proc.devRef .tc main_v1))
    ⊢ (vLoc d ↦{fullShare} fv m d : sProp 𝕄) := BI.Entails.refl _

theorem V3_b1 (d : Dev nD) : V3 m d b1' = bidxF (F := F) := Function.update_self _ _ _
theorem V3_r4 (d : Dev nD) : V3 m d r4' = m ((SparseCore.T d : Thread nD τ).loc main_v4) :=
  Function.update_of_ne (show r4' ≠ b1' by decide) _ _
theorem res_A (d : Dev nD) : (opA (F := F)).result (V0 m d) a1' = m ((SparseCore.T d : Thread nD τ).loc main_arg1) :=
  (opA (F := F)).result_of_not_mem (V0 m d) (b := a1') (show a1' ∉ ({r0'} : Finset (DevRef τ sig)) by decide)
theorem res_A1 (d : Dev nD) : (opA (F := F)).result (V0 m d) r1' = m (vLoc d) :=
  (opA (F := F)).result_of_not_mem (V0 m d) (b := r1') (show r1' ∉ ({r0'} : Finset (DevRef τ sig)) by decide)

/-- Before the SparseCore call the TensorCore's state is what it owes, bounded, and a rest. -/
theorem tcSt_open (d : Dev nD) : ∃ (lim : ℕ) (R : sProp 𝕄), (K (F := F)).tcSt EH d 0
    = iprop((∃ W, ⌜(K (F := F)).WBelow (T d) W lim⌝ ∗ owes (T d) ((K (F := F)).Otc d 0) W) ∗ R) := ⟨_, _, rfl⟩

theorem hmain (κ : GSem nD τ sig → ℕ) (d : Dev nD) :
    iprop((K (F := F)).ctx EH (P (fv m) (fo m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Hr0, Hr1, Hs0, Hs1, Ho, Hr4⟩, Hts, -⟩, Hgh⟩
  -- the mask, row by row
  iapply (wp_hlo_within 𝒱 (SparseCore.T d) none Set.univ (op := opA) (S := {a1', r0'}) (Finset.Subset.refl _) (V := V0 m d)) $$ [Hb Ha1 Hr0]
  · isplitl [Hb]; · iexact Hb
    rw [held_two d (by decide)]
    isplitl [Ha1]; · iexact Ha1
    iexact Hr0
  iintro ⟨Hb, Hh⟩
  ihave Hh := (Entails.of_eq (held_two d (by decide) ((opA (F := F)).result (V0 m d)))) $$ Hh
  icases Hh with ⟨Ha1, Hr0⟩
  rw [wp_ret, res_A]; imodintro
  -- the mask as numbers
  iapply (wp_hlo_within 𝒱 (SparseCore.T d) none Set.univ (op := opB) (S := {r0', r1'}) (Finset.Subset.refl _) (V := (opA (F := F)).result (V0 m d))) $$ [Hb Hr0 Hr1]
  · isplitl [Hb]; · iexact Hb
    rw [held_two d (by decide), res_A1]
    isplitl [Hr0]; · iexact Hr0
    iexact Hr1
  iintro ⟨Hb, Hh⟩
  ihave Hh := (Entails.of_eq (held_two d (by decide) ((opB (F := F)).result ((opA (F := F)).result (V0 m d))))) $$ Hh
  icases Hh with ⟨-, Hr1⟩
  rw [wp_ret]; imodintro
  -- the TensorCore call, the SparseCore's handshakes lent its promises
  obtain ⟨lim, R, hR⟩ := tcSt_open (F := F) d
  ihave Hst := (Entails.of_eq hR) $$ Hst
  icases Hst with ⟨HO, HR⟩
  ihave #HL := ((K (F := F)).ctx_levAts κ) $$ Hctx
  iapply (tc_call (fun d => m ((SparseCore.T d : Thread nD τ).loc main_v2_0)) (fun d => m ((SparseCore.T d : Thread nD τ).loc main_v2_1)) lim d)
  rw [pre_open, post_open]
  isplitr [Hb Hs0 Hs1 HO Hgh]
  swap
  · isplitl [Hb]; · iexact Hb
    isplitl [Hs0 Hs1 HO]
    · isplitl [Hs0]; · iexact Hs0
      isplitl [Hs1]; · iexact Hs1
      iexact HO
    isplitl []; · iexact HL
    iexact Hgh
  iintro ⟨Hb, ⟨Hs0, Hs1, HO⟩⟩
  ihave Hst := (Entails.of_eq hR.symm) $$ [HO HR]
  · isplitl [HO]; · iexact HO
    iexact HR
  -- the SparseCore call
  ihave Hr1 := (fv_open m d) $$ Hr1
  ihave Hr1 := (Entails.of_eq (vPts_cores (fv m) d)) $$ Hr1
  icases Hr1 with ⟨-, Hr1⟩
  iapply ((K (F := F)).wp_run (D (F := F)) 𝒱 (EH := EH) (P := P (fv m) (fo m)) κ d 0)
  rw [st_eq, dn_eq]
  isplitl []; · iexact Hctx
  isplitl [Hst]; · iexact Hst
  isplitl [Hr1 Ho]
  · isplitl [Hr1]; · iexact Hr1
    iexact Ho
  iintro ⟨Hst, ⟨-, Ho⟩⟩
  -- the row of batch numbers as a vector
  iapply (wp_hlo_within 𝒱 (SparseCore.T d) none Set.univ (op := opC) (S := {b1', r4'}) (Finset.Subset.refl _) (V := V3 m d)) $$ [Hb Hs1 Hr4]
  · isplitl [Hb]; · iexact Hb
    rw [held_two d (by decide), V3_b1, V3_r4]
    isplitl [Hs1]; · iexact Hs1
    iexact Hr4
  iintro ⟨Hb, Hh⟩
  ihave Hh := (Entails.of_eq (held_two d (by decide) ((opC (F := F)).result (V3 m d)))) $$ Hh
  icases Hh with ⟨-, Hr4⟩
  rw [wp_ret]; imodintro; imodintro
  isplitl [Hst]; · iexact Hst
  isplitr [Hb Hts]
  · isplitl [Ha0]; · iexact Ha0
    isplitl [Ha1]; · iexact Ha1
    isplitl [Hs0]; · iexact Hs0
    isplitl [Ho]; · iexact Ho
    iexact Hr4
  isplitl [Hb]; · iexact Hb
  iexact Hts

/-! ## What the machine holds at the end -/

/-- The final memory's facts on a device. -/
abbrev fq (d : Dev nD) (s' : Phys nD τ sig (Elt F)) : Prop :=
  s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_v2_0) = slotsF (F := F)
    ∧ s'.mem.mem (oLoc d) = resOf d (fv m d)
    ∧ s'.mem.mem ((SparseCore.T d : Thread nD τ).loc main_v4) = bv m d

omit [FloatOps F] in
/-- An array owned whole holds in memory what the ownership says. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr [HSI]
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (agree _ _ s') $$ [H0 HSI]
  · isplitl [H0] <;> iassumption
  icases H with ⟨%h0, HSI⟩
  ihave H := (agree _ _ s') $$ [H1 HSI]
  · isplitl [H1] <;> iassumption
  icases H with ⟨%h1, HSI⟩
  ihave H := (agree _ _ s') $$ [H2 HSI]
  · isplitl [H2] <;> iassumption
  icases H with ⟨%h2, HSI⟩
  ihave H := (agree _ _ s') $$ [H3 HSI]
  · isplitl [H3] <;> iassumption
  icases H with ⟨%h3, HSI⟩
  ihave H := (agree _ _ s') $$ [H4 HSI]
  · isplitl [H4] <;> iassumption
  icases H with ⟨%h4, -⟩
  ipureintro; exact ⟨h0, h1, h2, h3, h4⟩

/-- The program's post: every device's arrays, and every semaphore at zero. -/
def QC : PUnit × MemSt nD τ sig (Elt F) → Prop := fun r =>
  (∀ d : Dev nD, r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)
    ∧ r.2.mem ((SparseCore.T d : Thread nD τ).loc main_v2_0) = slotsF (F := F)
    ∧ r.2.mem (oLoc d) = resOf d (fv m d)
    ∧ r.2.mem ((SparseCore.T d : Thread nD τ).loc main_v4) = bv m d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fv m) (fo m)) (A := ∅) scFacts v₀
    (fun q hq => match q with | 0 => nomatch hq)
    (fun q _ => match q with | 0 => tileObl (fv m) (fo m) scFacts)
    (fun q _ => match q with | 0 => SparseCore.Cfg.VecSplit.of_plain (vecSplit (fv m) (fo m)))
    m ρ main (fun d => ghost d) (FIN m) (u₀ (F := F)) (sep_elim_left.trans (hu₀ m)) (hmain m ρ) (fq m) (hfin m) (QC m) (fun _ h hz => ⟨h, hz⟩)

end Cert.KernelIdeal.Sc

end
-- ==== Proof.Math.Threefry.lean ====
/- The threefry-2x32 hash of one counter, as a function of words: what both programs compute at every element. -/
module

public import Idealize.ShloMosaic.PureOps.Ideal

@[expose] public section

namespace Cert.Math

abbrev Word := BitVec 32

/-- The rotation of a word to the left by `a` bits (`b` is `32 - a`). -/
def rot (a b x : Word) : Word := (x <<< a) ||| (x >>> b)

/-- One round: the words are added, and the second is rotated and mixed into the sum. -/
def rnd (a b : Word) (p : Word × Word) : Word × Word := (p.1 + p.2, (p.1 + p.2) ^^^ rot a b p.2)

/-- Adding two words of the key and the group's number. -/
def inj (k l c : Word) (p : Word × Word) : Word × Word := (p.1 + k, p.2 + l + c)

/-- Four rounds with the first set of rotations, and a key. -/
def grpA (k l c : Word) (p : Word × Word) : Word × Word := inj k l c (rnd 6#32 26#32 (rnd 26#32 6#32 (rnd 15#32 17#32 (rnd 13#32 19#32 p))))

/-- Four rounds with the second set of rotations, and a key. -/
def grpB (k l c : Word) (p : Word × Word) : Word × Word := inj k l c (rnd 24#32 8#32 (rnd 16#32 16#32 (rnd 29#32 3#32 (rnd 17#32 15#32 p))))

/-- The third word of the key. -/
def key2 (k0 k1 : Word) : Word := (k0 ^^^ k1) ^^^ 466688986#32

/-- The hash after the first key and `g` groups of rounds. -/
def st0 (k0 k1 c0 c1 : Word) : Word × Word := (c0 + k0, c1 + k1)
def st1 (k0 k1 c0 c1 : Word) : Word × Word := grpA k1 (key2 k0 k1) 1#32 (st0 k0 k1 c0 c1)
def st2 (k0 k1 c0 c1 : Word) : Word × Word := grpB (key2 k0 k1) k0 2#32 (st1 k0 k1 c0 c1)
def st3 (k0 k1 c0 c1 : Word) : Word × Word := grpA k0 k1 3#32 (st2 k0 k1 c0 c1)
def st4 (k0 k1 c0 c1 : Word) : Word × Word := grpB k1 (key2 k0 k1) 4#32 (st3 k0 k1 c0 c1)

/-- The whole hash of the counter `(c0, c1)` under the key `(k0, k1)`. -/
def hash (k0 k1 c0 c1 : Word) : Word × Word := grpA (key2 k0 k1) k0 5#32 (st4 k0 k1 c0 c1)

/-- The third of the keys split from the key `(0, 42)`. -/
theorem subkey : hash 0#32 42#32 0#32 2#32 = (2465931498#32, 255383827#32) := by decide +kernel

end Cert.Math
-- ==== Proof.Math.Slots.lean ====
/- The value of one element of `slots`, as the reference spells it and as the kernel spells it, and that the two agree. -/
module

public import proofs.«01_k».proof.Proof.Math.Threefry
public import Idealize.ShloMosaic.PureOps.Ideal
public import Idealize.ShloMosaic.Lib.IdealHost

@[expose] public section

noncomputable section

namespace Cert.Math

open Idealize.ShloMosaic

/-- The number a binary32 pattern denotes. -/
abbrev c (b : BitVec 32) : EReal := Ideal.ofBits .f32 b

/-- The number whose binary32 pattern has the top 23 bits of `b` as fraction and exponent 0. -/
def frac (b : BitVec 32) : EReal := c (b >>> 9#32 ||| 1065353216#32)

/-- The uniform draw of the pattern `b`, in (-1, 1). -/
def draw (b : BitVec 32) : EReal := max (c 0xBF7FFFFF#32) ((frac b - c 0x3F800000#32) * c 0x40000000#32 + c 0xBF7FFFFF#32)

/-- A choice by a bit. -/
abbrev pick (b : BitVec 1) (x y : EReal) : EReal := Scalar.select b x y

/-- `-log(1 - x²)`. -/
def logTerm (x : EReal) : EReal := -(Ideal.log1p (-x * x))

/-- Whether `w` is on the branch near zero. -/
def near (w : EReal) : BitVec 1 := Ideal.cmp .olt w (c 0x40A00000#32)

/-- The polynomials' argument on either branch. -/
def arg (w : EReal) : EReal := pick (near w) (w - c 0x40200000#32) (Ideal.sqrt w - c 0x40400000#32)

/-- One step of the evaluation, on coefficients chosen by `l`. -/
def hstep (l : BitVec 1) (a b : BitVec 32) (p t : EReal) : EReal := pick l (c a) (c b) + p * t

/-- The polynomial without its last coefficient, evaluated on chosen coefficients. -/
def poly7 (l : BitVec 1) (t : EReal) : EReal :=
  hstep l 0x3E7C8F63#32 0x3F8036DB#32 (hstep l 0xBB88E4EF#32 0x3C1AA57E#32 (hstep l 0xBAA45408#32 0xBBF9C5D7#32
    (hstep l 0x396532DB#32 0x3BBC127B#32 (hstep l 0xB6935AC1#32 0xBB70BDE7#32 (hstep l 0xB66C7357#32 0x3AB0DC72#32
      (hstep l 0x34B84B36#32 0x38D3B56B#32 (pick l (c 0x32F16588#32) (c 0xB951F09B#32)) t) t) t) t) t) t) t

/-- The reference's inverse error function times √2. -/
def slotR (x : EReal) : EReal :=
  c 0x3FB504F3#32 * pick (Ideal.cmp .oeq (max x (-x)) (c 0x3F800000#32)) (x * c 0x7F800000#32)
    ((pick (near (logTerm x)) (c 0x3FC02E2F#32) (c 0x40354F7E#32) + poly7 (near (logTerm x)) (arg (logTerm x)) * arg (logTerm x)) * x)

end Cert.Math

end
-- ==== Proof.Math.SlotsKernel.lean ====
/- The value of one element of `slots` as the kernel spells it, and that it is the reference's: the draws lie strictly
   between -1 and 1, so the reference's value at ±1 is never taken, and the rest is commutativity of sums and products. -/
module

public import proofs.«01_k».proof.Proof.Math.Slots

@[expose] public section

noncomputable section

namespace Cert.Math

open Idealize.ShloMosaic

/-- One step of the evaluation on one coefficient. -/
abbrev kstep (a : BitVec 32) (p t : EReal) : EReal := p * t + c a

/-- The polynomial near zero. -/
def polyS (t : EReal) : EReal :=
  kstep 0x3FC02E2F#32 (kstep 0x3E7C8F63#32 (kstep 0xBB88E4EF#32 (kstep 0xBAA45408#32 (kstep 0x396532DB#32
    (kstep 0xB6935AC1#32 (kstep 0xB66C7357#32 (kstep 0x34B84B36#32 (c 0x32F16588#32) t) t) t) t) t) t) t) t

/-- The polynomial in the tails. -/
def polyB (t : EReal) : EReal :=
  kstep 0x40354F7E#32 (kstep 0x3F8036DB#32 (kstep 0x3C1AA57E#32 (kstep 0xBBF9C5D7#32 (kstep 0x3BBC127B#32
    (kstep 0xBB70BDE7#32 (kstep 0x3AB0DC72#32 (kstep 0x38D3B56B#32 (c 0xB951F09B#32) t) t) t) t) t) t) t) t

/-- The kernel's `-log(1 - u²)`. -/
def logK (u : EReal) : EReal := c 0#32 - Ideal.log1p ((c 0#32 - u) * u)

/-- The kernel's inverse error function times √2. -/
def slotK (u : EReal) : EReal :=
  c 0x3FB504F3#32 * pick (near (logK u)) (polyS (logK u - c 0x40200000#32)) (polyB (Ideal.sqrt (logK u) - c 0x40400000#32)) * u

theorem c_zero : c 0#32 = 0 := Ideal.ofBits_zero_f32

theorem logK_eq (u : EReal) : logK u = logTerm u := by
  unfold logK logTerm
  rw [c_zero, zero_sub, zero_sub]

theorem pick_one (x y : EReal) : pick 1#1 x y = x := rfl
theorem pick_zero (x y : EReal) : pick 0#1 x y = y := rfl

theorem bit_cases (b : BitVec 1) : b = 0#1 ∨ b = 1#1 := by revert b; decide

/-- Off ±1 the two spellings agree. -/
theorem slotK_eq (u : EReal) (h : max u (-u) ≠ c 0x3F800000#32) : slotK u = slotR u := by
  have h0 : Ideal.cmp .oeq (max u (-u)) (c 0x3F800000#32) = 0#1 := by
    show BitVec.ofBool (decide _) = _
    rw [decide_eq_false h]; rfl
  unfold slotK slotR
  rw [h0, pick_zero, logK_eq, mul_assoc]
  generalize logTerm u = w
  congr 2
  unfold arg
  rcases bit_cases (near w) with e | e
  · simp only [e, pick_zero, pick_one, polyB, kstep, poly7, hstep]
    generalize Ideal.sqrt w - c 0x40400000#32 = t
    simp only [add_comm]
  · simp only [e, pick_zero, pick_one, polyS, kstep, poly7, hstep]
    generalize w - c 0x40200000#32 = t
    simp only [add_comm]

theorem sign_bit (b : BitVec 32) : (b >>> 9#32 ||| 1065353216#32).extractLsb' 31 1 = 0#1 := by
  apply BitVec.eq_of_getLsbD_eq
  intro i hi
  obtain rfl : i = 0 := by omega
  simp [BitVec.getLsbD_or]

theorem exp_bits (b : BitVec 32) : (b >>> 9#32 ||| 1065353216#32).extractLsb' 23 8 = 127#8 := by
  apply BitVec.eq_of_getLsbD_eq
  intro i hi
  have hb : ∀ j, 32 ≤ j → b.getLsbD j = false := fun j hj => BitVec.getLsbD_of_ge b j hj
  interval_cases i <;> simp [BitVec.getLsbD_or, hb]

/-- The number with exponent 0 and a fraction of 23 bits is a real, at most 2 - 2⁻²³. -/
theorem frac_le (b : BitVec 32) : ∃ r : ℝ, frac b = (r : EReal) ∧ r ≤ 2 - (2 : ℝ) ^ (-23 : ℤ) := by
  have hf := ((b >>> 9#32 ||| 1065353216#32).extractLsb' 0 23).isLt
  unfold frac c
  show ∃ r : ℝ, Ideal.ieee 8 23 _ = _ ∧ _
  unfold Ideal.ieee
  simp only [Nat.reduceAdd, sign_bit, exp_bits]
  generalize ((b >>> 9#32 ||| 1065353216#32).extractLsb' 0 23).toNat = f at hf ⊢
  refine ⟨_, rfl, ?_⟩
  rw [if_neg (by decide : ¬ ((0#1 == 1#1) = true))]
  have h1 : (f : ℝ) ≤ 8388607 := by
    have : f ≤ 8388607 := by omega
    exact_mod_cast this
  norm_num
  linarith

theorem c_lo : c 0xBF7FFFFF#32 = ((-(1 - (2 : ℝ) ^ (-24 : ℤ)) : ℝ) : EReal) := by
  rw [show (-(1 - (2 : ℝ) ^ (-24 : ℤ)) : ℝ) = -(16777215 / 16777216) by norm_num]
  simp [c, Ideal.ofBits, Ideal.ieee, -EReal.coe_mul, -EReal.coe_neg]; norm_num

theorem c_two : c 0x40000000#32 = ((2 : ℝ) : EReal) := by
  simp [c, Ideal.ofBits, Ideal.ieee, -EReal.coe_mul, -EReal.coe_neg]; norm_num

theorem c_one : c 0x3F800000#32 = ((1 : ℝ) : EReal) := by
  exact Ideal.ofBits_one_f32

/-- A draw is strictly between -1 and 1. -/
theorem draw_off (b : BitVec 32) : max (draw b) (-(draw b)) ≠ c 0x3F800000#32 := by
  obtain ⟨r, hr, hle⟩ := frac_le b
  have h : ∃ x : ℝ, draw b = (x : EReal) ∧ -1 < x ∧ x < 1 := by
    refine ⟨max (-(1 - (2 : ℝ) ^ (-24 : ℤ))) ((r - 1) * 2 + -(1 - (2 : ℝ) ^ (-24 : ℤ))), ?_, ?_, ?_⟩
    · unfold draw
      rw [hr, c_lo, c_two, c_one]
      norm_cast
    · refine lt_of_lt_of_le ?_ (le_max_left _ _)
      norm_num
    · refine max_lt (by norm_num) ?_
      norm_num at hle ⊢
      linarith
  obtain ⟨x, hx, h1, h2⟩ := h
  rw [hx, c_one]
  refine ne_of_lt (max_lt (by exact_mod_cast h2) ?_)
  have : -x < 1 := by linarith
  exact_mod_cast this

/-- The kernel's value of a draw is the reference's. -/
theorem slotK_draw (b : BitVec 32) : slotK (draw b) = slotR (draw b) := slotK_eq _ (draw_off b)

end Cert.Math

end
-- ==== Proof.Ke.Bits.lean ====
/- The values of the kernel's pure sequences, element by element: the random bits are the hash's words, the slots the
   scaled inverse error function of the draws, the batch of a row the row over 64. -/
module

public import proofs.«01_k».proof.Proof.Gen.KernelIdeal.Skeleton
public import proofs.«01_k».proof.Proof.Math.SlotsKernel

@[expose] public section

noncomputable section

namespace Cert.KernelIdeal.Val

open Idealize.ShloMosaic Idealize.SL.Sem Cert.Math Cert.KernelIdeal.Gen

/-- A step between rounds holds the second word and the sum of both. -/
def Holds (p : Word × Word) (x t : Word) : Prop := x = p.2 ∧ t = p.1 + p.2

theorem Holds.step (a b : Word) {p : Word × Word} {x t x' t' : Word} (h : Holds p x t) (hx : x' = t ^^^ rot a b x) (ht : t' = t + x') :
    Holds (rnd a b p) x' t' := by
  obtain ⟨rfl, rfl⟩ := h
  exact ⟨hx, by rw [ht, hx]; rfl⟩

theorem Holds.close (a b k l c : Word) {p : Word × Word} {x t x' t' : Word} (h : Holds p x t) (hx : x' = (t ^^^ rot a b x) + l + c)
    (ht : t' = (t + k) + x') : Holds (inj k l c (rnd a b p)) x' t' := by
  obtain ⟨rfl, rfl⟩ := h
  exact ⟨hx, by rw [ht, hx]; rfl⟩

theorem q2_eq : key2 2465931498#32 255383827#32 = 2249384483#32 := by decide

/-- A count along one axis. -/
theorem iota_axis {s : Shape} (a : Fin s.rank) (h) (i : s.Idx) : iota .tc s 32 [a] h i = BitVec.ofNat 32 (i a).val := by
  simp only [iota, List.foldl, Nat.zero_mul, Nat.zero_add]

/-- The counter the kernel numbers its elements by. -/
def cnt (i : S512x256.Idx) : Word :=
  addi (muli (iota .tc S512x256 32 [0] iota_S512x256_d0_w32) (broadcast S512x256 256#32)) (iota .tc S512x256 32 [1] iota_S512x256_d1_w32) i

theorem cnt_eq (i : S512x256.Idx) : cnt i = BitVec.ofNat 32 (256 * (i 0).val + (i 1).val) := by
  show iota .tc S512x256 32 [0] _ i * 256#32 + iota .tc S512x256 32 [1] _ i = _
  rw [iota_axis, iota_axis]
  apply BitVec.eq_of_toNat_eq
  have h0 : (i 0).val < 512 := (i 0).isLt
  have h1 : (i 1).val < 256 := (i 1).isLt
  simp only [BitVec.toNat_add, BitVec.toNat_mul, BitVec.toNat_ofNat, Nat.reducePow, Nat.reduceMod]
  omega

section
variable (i : S512x256.Idx)

theorem h0 : Holds (st0 2465931498#32 255383827#32 0#32 (cnt i)) (k0_pay2 i) (k0_pay3 i) := ⟨rfl, rfl⟩
theorem h1 : Holds (rnd 13#32 19#32 (st0 2465931498#32 255383827#32 0#32 (cnt i))) (k0_pay4 i) (k0_pay5 i) := (h0 i).step 13#32 19#32 rfl rfl
theorem h2 : Holds (rnd 15#32 17#32 (rnd 13#32 19#32 (st0 2465931498#32 255383827#32 0#32 (cnt i)))) (k0_pay6 i) (k0_pay7 i) := (h1 i).step 15#32 17#32 rfl rfl
theorem h3 : Holds (rnd 26#32 6#32 (rnd 15#32 17#32 (rnd 13#32 19#32 (st0 2465931498#32 255383827#32 0#32 (cnt i))))) (k0_pay8 i) (k0_pay9 i) := (h2 i).step 26#32 6#32 rfl rfl
theorem h4 : Holds (st1 2465931498#32 255383827#32 0#32 (cnt i)) (k0_pay10 i) (k0_pay11 i) := by
  have h := (h3 i).close 6#32 26#32 255383827#32 2249384483#32 1#32 (x' := k0_pay10 i) (t' := k0_pay11 i) rfl rfl
  rw [← q2_eq] at h
  exact h

variable {v43 v44 : IVec S512x256 32} {p : Word × Word}

theorem g1 (h : Holds p (v43 i) (v44 i)) : Holds (rnd 17#32 15#32 p) (k0_pay12 v43 v44 i) (k0_pay13 v43 v44 i) := h.step 17#32 15#32 rfl rfl
theorem g2 (h : Holds p (v43 i) (v44 i)) : Holds (rnd 29#32 3#32 (rnd 17#32 15#32 p)) (k0_pay14 v43 v44 i) (k0_pay15 v43 v44 i) := (g1 i h).step 29#32 3#32 rfl rfl
theorem g3 (h : Holds p (v43 i) (v44 i)) : Holds (rnd 16#32 16#32 (rnd 29#32 3#32 (rnd 17#32 15#32 p))) (k0_pay16 v43 v44 i) (k0_pay17 v43 v44 i) := (g2 i h).step 16#32 16#32 rfl rfl
theorem g4 (h : Holds p (v43 i) (v44 i)) : Holds (grpB 2249384483#32 2465931498#32 2#32 p) (k0_pay18 v43 v44 i) (k0_pay19 v43 v44 i) :=
  (g3 i h).close 24#32 8#32 2249384483#32 2465931498#32 2#32 rfl rfl
theorem g5 (h : Holds p (v43 i) (v44 i)) : Holds (rnd 13#32 19#32 (grpB 2249384483#32 2465931498#32 2#32 p)) (k0_pay20 v43 v44 i) (k0_pay21 v43 v44 i) :=
  (g4 i h).step 13#32 19#32 rfl rfl

theorem g6 : k0_pay22 v43 v44 i = (k0_pay20 v43 v44 i) <<< 15#32 := rfl
theorem g7 : k0_pay23 v43 v44 i = (k0_pay20 v43 v44 i) >>> 17#32 := rfl

variable {v85 v87 v89 : IVec S512x256 32} {x : Word}

theorem f1 (h : Holds p x (v85 i)) (e : v87 i = x <<< 15#32) (e' : v89 i = x >>> 17#32) :
    Holds (rnd 15#32 17#32 p) (k0_pay24 v85 v87 v89 i) (k0_pay25 v85 v87 v89 i) :=
  h.step 15#32 17#32 (by show v85 i ^^^ (v87 i ||| v89 i) = _; rw [e, e']; rfl) rfl
theorem f2 (h : Holds p x (v85 i)) (e : v87 i = x <<< 15#32) (e' : v89 i = x >>> 17#32) :
    Holds (rnd 26#32 6#32 (rnd 15#32 17#32 p)) (k0_pay26 v85 v87 v89 i) (k0_pay27 v85 v87 v89 i) := (f1 i h e e').step 26#32 6#32 rfl rfl
theorem f3 (h : Holds p x (v85 i)) (e : v87 i = x <<< 15#32) (e' : v89 i = x >>> 17#32) :
    Holds (inj 2465931498#32 255383827#32 3#32 (rnd 6#32 26#32 (rnd 26#32 6#32 (rnd 15#32 17#32 p)))) (k0_pay28 v85 v87 v89 i) (k0_pay29 v85 v87 v89 i) := (f2 i h e e').close 6#32 26#32 2465931498#32 255383827#32 3#32 rfl rfl
theorem f4 (h : Holds p x (v85 i)) (e : v87 i = x <<< 15#32) (e' : v89 i = x >>> 17#32) :
    Holds (rnd 17#32 15#32 (inj 2465931498#32 255383827#32 3#32 (rnd 6#32 26#32 (rnd 26#32 6#32 (rnd 15#32 17#32 p))))) (k0_pay30 v85 v87 v89 i) (k0_pay31 v85 v87 v89 i) := (f3 i h e e').step 17#32 15#32 rfl rfl
theorem f5 (h : Holds p x (v85 i)) (e : v87 i = x <<< 15#32) (e' : v89 i = x >>> 17#32) :
    Holds (rnd 29#32 3#32 (rnd 17#32 15#32 (inj 2465931498#32 255383827#32 3#32 (rnd 6#32 26#32 (rnd 26#32 6#32 (rnd 15#32 17#32 p)))))) (k0_pay32 v85 v87 v89 i) (k0_pay33 v85 v87 v89 i) := (f4 i h e e').step 29#32 3#32 rfl rfl
theorem f6 (h : Holds p x (v85 i)) (e : v87 i = x <<< 15#32) (e' : v89 i = x >>> 17#32) :
    Holds (rnd 16#32 16#32 (rnd 29#32 3#32 (rnd 17#32 15#32 (inj 2465931498#32 255383827#32 3#32 (rnd 6#32 26#32 (rnd 26#32 6#32 (rnd 15#32 17#32 p))))))) (k0_pay34 v85 v87 v89 i) (k0_pay35 v85 v87 v89 i) := (f5 i h e e').step 16#32 16#32 rfl rfl
theorem f7 : k0_pay36 v85 v87 v89 i = (k0_pay34 v85 v87 v89 i) <<< 24#32 := rfl

variable {v132 v133 v135 : IVec S512x256 32}

theorem last (h : Holds p (v132 i) (v133 i)) (e : v135 i = v132 i <<< 24#32) :
    k0_pay37 v132 v133 v135 i = (grpA 2249384483#32 2465931498#32 5#32 (inj 255383827#32 2249384483#32 4#32 (rnd 24#32 8#32 p))).1 ^^^ (grpA 2249384483#32 2465931498#32 5#32 (inj 255383827#32 2249384483#32 4#32 (rnd 24#32 8#32 p))).2 := by
  obtain ⟨e1, e2⟩ := h
  have e3 : v135 i = p.2 <<< 24#32 := e.trans (by rw [e1])
  unfold k0_pay37
  simp only [addi, ori, xori, shli, shrui, broadcast, e1, e2, e3, IntOp.shli, IntOp.shrui, grpA, inj, rnd, rot]
  rfl

end

/-- The bits the kernel draws are the exclusive or of the hash's two words at the counter. -/
theorem bits_eq (i : S512x256.Idx) :
    k0_pay37 (k0_pay34 (k0_pay21 k0_pay10 k0_pay11) (k0_pay22 k0_pay10 k0_pay11) (k0_pay23 k0_pay10 k0_pay11))
      (k0_pay35 (k0_pay21 k0_pay10 k0_pay11) (k0_pay22 k0_pay10 k0_pay11) (k0_pay23 k0_pay10 k0_pay11))
      (k0_pay36 (k0_pay21 k0_pay10 k0_pay11) (k0_pay22 k0_pay10 k0_pay11) (k0_pay23 k0_pay10 k0_pay11)) i
      = (Cert.Math.hash 2465931498#32 255383827#32 0#32 (BitVec.ofNat 32 (256 * (i 0).val + (i 1).val))).1 ^^^ (Cert.Math.hash 2465931498#32 255383827#32 0#32 (BitVec.ofNat 32 (256 * (i 0).val + (i 1).val))).2 := by
  rw [last i (f6 i (g5 i (h4 i)) ((g6 i).trans (by rw [(g5 i (h4 i)).1])) ((g7 i).trans (by rw [(g5 i (h4 i)).1]))) (f7 i), ← cnt_eq]
  unfold Cert.Math.hash st4 st3 st2
  rw [q2_eq]
  rfl

/-- What the kernel stores in `slots`, from the bits. -/
theorem slots_eq (v : IVec S512x256 32) (i : S512x256.Idx) :
    k0_pay42 (k0_pay38 (F := Ideal) v) (k0_pay39 (F := Ideal) v) (k0_pay40 (F := Ideal) v) (k0_pay41 (F := Ideal) v) i = slotR (draw (v i)) := by
  refine Eq.trans ?_ (slotK_draw (v i))
  have hd : k0_pay38 (F := Ideal) v i = draw (v i) := rfl
  have hw : k0_pay39 (F := Ideal) v i = logK (draw (v i)) := by
    show _ = logK (k0_pay38 (F := Ideal) v i)
    rfl
  have ht : k0_pay40 (F := Ideal) v i = logK (draw (v i)) - c 0x40200000#32 := by
    rw [← hw]; rfl
  have hp : k0_pay41 (F := Ideal) v i = kstep 0x3E7C8F63#32 (kstep 0xBB88E4EF#32 (kstep 0xBAA45408#32 (kstep 0x396532DB#32
    (kstep 0xB6935AC1#32 (kstep 0xB66C7357#32 (kstep 0x34B84B36#32 (c 0x32F16588#32) (k0_pay40 (F := Ideal) v i)) (k0_pay40 (F := Ideal) v i))
      (k0_pay40 (F := Ideal) v i)) (k0_pay40 (F := Ideal) v i)) (k0_pay40 (F := Ideal) v i)) (k0_pay40 (F := Ideal) v i)) (k0_pay40 (F := Ideal) v i) := rfl
  have hk : ∀ a b d e : FVec Ideal S512x256 .f32, k0_pay42 a b d e i
      = c 0x3FB504F3#32 * pick (near (b i)) (e i * d i + c 0x3FC02E2F#32) (polyB (Ideal.sqrt (b i) - c 0x40400000#32)) * a i := fun _ _ _ _ => rfl
  rw [hk, hp, ht, hw, hd]
  rfl

/-- What the kernel stores in `bidx`. -/
theorem bidx_eq (i : S1x512.Idx) : k0_pay1 (iota .tc S1x512 32 [1] iota_S1x512_d1_w32) 64#32 k0_pay43 k0_pay44 i = BitVec.ofNat 32 ((i 1).val / 64) := by
  have hi : (iota .tc S1x512 32 [1] iota_S1x512_d1_w32) = fun j => BitVec.ofNat 32 (j 1).val := funext fun j => iota_axis _ _ j
  unfold k0_pay1 k0_pay43 k0_pay44
  rw [hi]
  have h : ∀ n : Fin 512, (let v : BitVec 32 := BitVec.ofNat 32 n.val
      Scalar.select (IntOp.cmpi .ne (Scalar.subi (Scalar.extui (IntOp.cmpi .sgt v 0#32)) (Scalar.extui (IntOp.cmpi .slt v 0#32))) (Scalar.subi (Scalar.extui (Scalar.cmpi .sgt 64#32 0#32)) (Scalar.extui (Scalar.cmpi .slt 64#32 0#32)))
          &&& IntOp.cmpi .ne (IntOp.remsi .vector v 64#32) 0#32)
        (IntOp.divsi .vector v 64#32 - 1#32) (IntOp.divsi .vector v 64#32)) = BitVec.ofNat 32 (n.val / 64) := by
    decide +kernel
  exact h (i 1)

end Cert.KernelIdeal.Val

end
-- ==== Proof.Fu.Bits.lean ====
/- The values of the kernel's pure sequences, element by element: the random bits are the hash's words, the slots the
   scaled inverse error function of the draws, the batch of a row the row over 64. -/
module

public import proofs.«01_k».proof.Proof.Gen.FusedIdeal.Skeleton
public import proofs.«01_k».proof.Proof.Math.SlotsKernel

@[expose] public section

noncomputable section

namespace Cert.FusedIdeal.Val

open Idealize.ShloMosaic Idealize.SL.Sem Cert.Math Cert.FusedIdeal.Gen

/-- A step between rounds holds the second word and the sum of both. -/
def Holds (p : Word × Word) (x t : Word) : Prop := x = p.2 ∧ t = p.1 + p.2

theorem Holds.step (a b : Word) {p : Word × Word} {x t x' t' : Word} (h : Holds p x t) (hx : x' = t ^^^ rot a b x) (ht : t' = t + x') :
    Holds (rnd a b p) x' t' := by
  obtain ⟨rfl, rfl⟩ := h
  exact ⟨hx, by rw [ht, hx]; rfl⟩

theorem Holds.close (a b k l c : Word) {p : Word × Word} {x t x' t' : Word} (h : Holds p x t) (hx : x' = (t ^^^ rot a b x) + l + c)
    (ht : t' = (t + k) + x') : Holds (inj k l c (rnd a b p)) x' t' := by
  obtain ⟨rfl, rfl⟩ := h
  exact ⟨hx, by rw [ht, hx]; rfl⟩

theorem q2_eq : key2 2465931498#32 255383827#32 = 2249384483#32 := by decide

/-- A count along one axis. -/
theorem iota_axis {s : Shape} (a : Fin s.rank) (h) (i : s.Idx) : iota .tc s 32 [a] h i = BitVec.ofNat 32 (i a).val := by
  simp only [iota, List.foldl, Nat.zero_mul, Nat.zero_add]

/-- The counter the kernel numbers its elements by. -/
def cnt (i : S512x256.Idx) : Word :=
  addi (muli (iota .tc S512x256 32 [0] iota_S512x256_d0_w32) (broadcast S512x256 256#32)) (iota .tc S512x256 32 [1] iota_S512x256_d1_w32) i

theorem cnt_eq (i : S512x256.Idx) : cnt i = BitVec.ofNat 32 (256 * (i 0).val + (i 1).val) := by
  show iota .tc S512x256 32 [0] _ i * 256#32 + iota .tc S512x256 32 [1] _ i = _
  rw [iota_axis, iota_axis]
  apply BitVec.eq_of_toNat_eq
  have h0 : (i 0).val < 512 := (i 0).isLt
  have h1 : (i 1).val < 256 := (i 1).isLt
  simp only [BitVec.toNat_add, BitVec.toNat_mul, BitVec.toNat_ofNat, Nat.reducePow, Nat.reduceMod]
  omega

section
variable (i : S512x256.Idx)

theorem h0 : Holds (st0 2465931498#32 255383827#32 0#32 (cnt i)) (k0_pay4 i) (k0_pay5 i) := ⟨rfl, rfl⟩
theorem h1 : Holds (rnd 13#32 19#32 (st0 2465931498#32 255383827#32 0#32 (cnt i))) (k0_pay6 i) (k0_pay7 i) := (h0 i).step 13#32 19#32 rfl rfl
theorem h2 : Holds (rnd 15#32 17#32 (rnd 13#32 19#32 (st0 2465931498#32 255383827#32 0#32 (cnt i)))) (k0_pay8 i) (k0_pay9 i) := (h1 i).step 15#32 17#32 rfl rfl
theorem h3 : Holds (rnd 26#32 6#32 (rnd 15#32 17#32 (rnd 13#32 19#32 (st0 2465931498#32 255383827#32 0#32 (cnt i))))) (k0_pay10 i) (k0_pay11 i) := (h2 i).step 26#32 6#32 rfl rfl
theorem h4 : Holds (st1 2465931498#32 255383827#32 0#32 (cnt i)) (k0_pay12 i) (k0_pay13 i) := by
  have h := (h3 i).close 6#32 26#32 255383827#32 2249384483#32 1#32 (x' := k0_pay12 i) (t' := k0_pay13 i) rfl rfl
  rw [← q2_eq] at h
  exact h

variable {v43 v44 : IVec S512x256 32} {p : Word × Word}

theorem g1 (h : Holds p (v43 i) (v44 i)) : Holds (rnd 17#32 15#32 p) (k0_pay14 v43 v44 i) (k0_pay15 v43 v44 i) := h.step 17#32 15#32 rfl rfl
theorem g2 (h : Holds p (v43 i) (v44 i)) : Holds (rnd 29#32 3#32 (rnd 17#32 15#32 p)) (k0_pay16 v43 v44 i) (k0_pay17 v43 v44 i) := (g1 i h).step 29#32 3#32 rfl rfl
theorem g3 (h : Holds p (v43 i) (v44 i)) : Holds (rnd 16#32 16#32 (rnd 29#32 3#32 (rnd 17#32 15#32 p))) (k0_pay18 v43 v44 i) (k0_pay19 v43 v44 i) := (g2 i h).step 16#32 16#32 rfl rfl
theorem g4 (h : Holds p (v43 i) (v44 i)) : Holds (grpB 2249384483#32 2465931498#32 2#32 p) (k0_pay20 v43 v44 i) (k0_pay21 v43 v44 i) :=
  (g3 i h).close 24#32 8#32 2249384483#32 2465931498#32 2#32 rfl rfl
theorem g5 (h : Holds p (v43 i) (v44 i)) : Holds (rnd 13#32 19#32 (grpB 2249384483#32 2465931498#32 2#32 p)) (k0_pay22 v43 v44 i) (k0_pay23 v43 v44 i) :=
  (g4 i h).step 13#32 19#32 rfl rfl

theorem g6 : k0_pay24 v43 v44 i = (k0_pay22 v43 v44 i) <<< 15#32 := rfl
theorem g7 : k0_pay25 v43 v44 i = (k0_pay22 v43 v44 i) >>> 17#32 := rfl

variable {v85 v87 v89 : IVec S512x256 32} {x : Word}

theorem f1 (h : Holds p x (v85 i)) (e : v87 i = x <<< 15#32) (e' : v89 i = x >>> 17#32) :
    Holds (rnd 15#32 17#32 p) (k0_pay26 v85 v87 v89 i) (k0_pay27 v85 v87 v89 i) :=
  h.step 15#32 17#32 (by show v85 i ^^^ (v87 i ||| v89 i) = _; rw [e, e']; rfl) rfl
theorem f2 (h : Holds p x (v85 i)) (e : v87 i = x <<< 15#32) (e' : v89 i = x >>> 17#32) :
    Holds (rnd 26#32 6#32 (rnd 15#32 17#32 p)) (k0_pay28 v85 v87 v89 i) (k0_pay29 v85 v87 v89 i) := (f1 i h e e').step 26#32 6#32 rfl rfl
theorem f3 (h : Holds p x (v85 i)) (e : v87 i = x <<< 15#32) (e' : v89 i = x >>> 17#32) :
    Holds (inj 2465931498#32 255383827#32 3#32 (rnd 6#32 26#32 (rnd 26#32 6#32 (rnd 15#32 17#32 p)))) (k0_pay30 v85 v87 v89 i) (k0_pay31 v85 v87 v89 i) := (f2 i h e e').close 6#32 26#32 2465931498#32 255383827#32 3#32 rfl rfl
theorem f4 (h : Holds p x (v85 i)) (e : v87 i = x <<< 15#32) (e' : v89 i = x >>> 17#32) :
    Holds (rnd 17#32 15#32 (inj 2465931498#32 255383827#32 3#32 (rnd 6#32 26#32 (rnd 26#32 6#32 (rnd 15#32 17#32 p))))) (k0_pay32 v85 v87 v89 i) (k0_pay33 v85 v87 v89 i) := (f3 i h e e').step 17#32 15#32 rfl rfl
theorem f5 (h : Holds p x (v85 i)) (e : v87 i = x <<< 15#32) (e' : v89 i = x >>> 17#32) :
    Holds (rnd 29#32 3#32 (rnd 17#32 15#32 (inj 2465931498#32 255383827#32 3#32 (rnd 6#32 26#32 (rnd 26#32 6#32 (rnd 15#32 17#32 p)))))) (k0_pay34 v85 v87 v89 i) (k0_pay35 v85 v87 v89 i) := (f4 i h e e').step 29#32 3#32 rfl rfl
theorem f6 (h : Holds p x (v85 i)) (e : v87 i = x <<< 15#32) (e' : v89 i = x >>> 17#32) :
    Holds (rnd 16#32 16#32 (rnd 29#32 3#32 (rnd 17#32 15#32 (inj 2465931498#32 255383827#32 3#32 (rnd 6#32 26#32 (rnd 26#32 6#32 (rnd 15#32 17#32 p))))))) (k0_pay36 v85 v87 v89 i) (k0_pay37 v85 v87 v89 i) := (f5 i h e e').step 16#32 16#32 rfl rfl
theorem f7 : k0_pay38 v85 v87 v89 i = (k0_pay36 v85 v87 v89 i) <<< 24#32 := rfl

variable {v132 v133 v135 : IVec S512x256 32}

theorem last (h : Holds p (v132 i) (v133 i)) (e : v135 i = v132 i <<< 24#32) :
    k0_pay39 v132 v133 v135 i = (grpA 2249384483#32 2465931498#32 5#32 (inj 255383827#32 2249384483#32 4#32 (rnd 24#32 8#32 p))).1 ^^^ (grpA 2249384483#32 2465931498#32 5#32 (inj 255383827#32 2249384483#32 4#32 (rnd 24#32 8#32 p))).2 := by
  obtain ⟨e1, e2⟩ := h
  have e3 : v135 i = p.2 <<< 24#32 := e.trans (by rw [e1])
  unfold k0_pay39
  simp only [addi, ori, xori, shli, shrui, broadcast, e1, e2, e3, IntOp.shli, IntOp.shrui, grpA, inj, rnd, rot]
  rfl

end

/-- The bits the kernel draws are the exclusive or of the hash's two words at the counter. -/
theorem bits_eq (i : S512x256.Idx) :
    k0_pay39 (k0_pay36 (k0_pay23 k0_pay12 k0_pay13) (k0_pay24 k0_pay12 k0_pay13) (k0_pay25 k0_pay12 k0_pay13))
      (k0_pay37 (k0_pay23 k0_pay12 k0_pay13) (k0_pay24 k0_pay12 k0_pay13) (k0_pay25 k0_pay12 k0_pay13))
      (k0_pay38 (k0_pay23 k0_pay12 k0_pay13) (k0_pay24 k0_pay12 k0_pay13) (k0_pay25 k0_pay12 k0_pay13)) i
      = (Cert.Math.hash 2465931498#32 255383827#32 0#32 (BitVec.ofNat 32 (256 * (i 0).val + (i 1).val))).1 ^^^ (Cert.Math.hash 2465931498#32 255383827#32 0#32 (BitVec.ofNat 32 (256 * (i 0).val + (i 1).val))).2 := by
  rw [last i (f6 i (g5 i (h4 i)) ((g6 i).trans (by rw [(g5 i (h4 i)).1])) ((g7 i).trans (by rw [(g5 i (h4 i)).1]))) (f7 i), ← cnt_eq]
  unfold Cert.Math.hash st4 st3 st2
  rw [q2_eq]
  rfl

/-- What the kernel stores in `slots`, from the bits. -/
theorem slots_eq (v : IVec S512x256 32) (i : S512x256.Idx) :
    k0_pay44 (k0_pay40 (F := Ideal) v) (k0_pay41 (F := Ideal) v) (k0_pay42 (F := Ideal) v) (k0_pay43 (F := Ideal) v) i = slotR (draw (v i)) := by
  refine Eq.trans ?_ (slotK_draw (v i))
  have hd : k0_pay40 (F := Ideal) v i = draw (v i) := rfl
  have hw : k0_pay41 (F := Ideal) v i = logK (draw (v i)) := by
    show _ = logK (k0_pay40 (F := Ideal) v i)
    rfl
  have ht : k0_pay42 (F := Ideal) v i = logK (draw (v i)) - c 0x40200000#32 := by
    rw [← hw]; rfl
  have hp : k0_pay43 (F := Ideal) v i = kstep 0x3E7C8F63#32 (kstep 0xBB88E4EF#32 (kstep 0xBAA45408#32 (kstep 0x396532DB#32
    (kstep 0xB6935AC1#32 (kstep 0xB66C7357#32 (kstep 0x34B84B36#32 (c 0x32F16588#32) (k0_pay42 (F := Ideal) v i)) (k0_pay42 (F := Ideal) v i))
      (k0_pay42 (F := Ideal) v i)) (k0_pay42 (F := Ideal) v i)) (k0_pay42 (F := Ideal) v i)) (k0_pay42 (F := Ideal) v i)) (k0_pay42 (F := Ideal) v i) := rfl
  have hk : ∀ a b d e : FVec Ideal S512x256 .f32, k0_pay44 a b d e i
      = c 0x3FB504F3#32 * pick (near (b i)) (e i * d i + c 0x3FC02E2F#32) (polyB (Ideal.sqrt (b i) - c 0x40400000#32)) * a i := fun _ _ _ _ => rfl
  rw [hk, hp, ht, hw, hd]
  rfl

/-- What the kernel stores in `bidx`. -/
theorem bidx_eq (i : S1x512.Idx) : k0_pay47 (iota .tc S1x512 32 [1] iota_S1x512_d1_w32) 64#32 k0_pay45 k0_pay46 i = BitVec.ofNat 32 ((i 1).val / 64) := by
  have hi : (iota .tc S1x512 32 [1] iota_S1x512_d1_w32) = fun j => BitVec.ofNat 32 (j 1).val := funext fun j => iota_axis _ _ j
  unfold k0_pay47 k0_pay45 k0_pay46
  rw [hi]
  have h : ∀ n : Fin 512, (let v : BitVec 32 := BitVec.ofNat 32 n.val
      Scalar.select (IntOp.cmpi .ne (Scalar.subi (Scalar.extui (IntOp.cmpi .sgt v 0#32)) (Scalar.extui (IntOp.cmpi .slt v 0#32))) (Scalar.subi (Scalar.extui (Scalar.cmpi .sgt 64#32 0#32)) (Scalar.extui (Scalar.cmpi .slt 64#32 0#32)))
          &&& IntOp.cmpi .ne (IntOp.remsi .vector v 64#32) 0#32)
        (IntOp.divsi .vector v 64#32 - 1#32) (IntOp.divsi .vector v 64#32)) = BitVec.ofNat 32 (n.val / 64) := by
    decide +kernel
  exact h (i 1)

end Cert.FusedIdeal.Val

end
-- ==== Proof.Fu.Run.lean ====
/- The run of the fused kernel on the extended reals: what its three results hold at the end. -/
module

public import proofs.«01_k».proof.Proof.Gen.FusedIdeal.Frame
public import proofs.«01_k».proof.Proof.Fu.Bits
public import Idealize.ShloMosaic.Lib.Pipeline.ValueKit
public import Idealize.ShloMosaic.Lib.Pipeline.Value
public import Idealize.ShloMosaic.Lib.StableHlo.ReadAt

@[expose] public section

set_option maxRecDepth 16384

noncomputable section

namespace Cert.FusedIdeal.Val

open Idealize.ShloMosaic Idealize.SL.Sem Idealize.ShloMosaic.StableHlo Idealize.ShloMosaic.TcCoe Cert.Math Cert.FusedIdeal Cert.FusedIdeal.Gen

/-- The three results, as functions of the mask. -/
def slotsV : S512x256.Idx → EReal := fun i =>
  slotR (draw ((Cert.Math.hash 2465931498#32 255383827#32 0#32 (BitVec.ofNat 32 (256 * (i 0).val + (i 1).val))).1
    ^^^ (Cert.Math.hash 2465931498#32 255383827#32 0#32 (BitVec.ofNat 32 (256 * (i 0).val + (i 1).val))).2))
def bidxV : S512.Idx → BitVec 32 := fun i => BitVec.ofNat 32 ((i 0).val / 64)
def segV (mask : S8x32x32.Idx → BitVec 1) : S512x3x1024.Idx → EReal := fun i =>
  pick (mask (ix3 ⟨(i 0).val / 64, Nat.div_lt_of_lt_mul (i 0).isLt⟩ ⟨(i 2).val / 32, Nat.div_lt_of_lt_mul (i 2).isLt⟩
    ⟨(i 2).val % 32, Nat.mod_lt _ (by decide)⟩)) (c 0xC9742400#32) (c 0#32)

/-- What the body leaves in the first window's buffer. -/
theorem out1 (x0 : Vec Ideal S8x1x1024 .f32) (i : S512x256.Idx) : out0_1 x0 i = slotsV i := by
  have h : out0_1 x0 = k0_pay44 (k0_pay40 (F := Ideal) (k0_pay59 x0)) (k0_pay41 (F := Ideal) (k0_pay59 x0)) (k0_pay42 (F := Ideal) (k0_pay59 x0)) (k0_pay43 (F := Ideal) (k0_pay59 x0)) := by
    unfold out0_1
    rw [View.canon_unit_zero (by funext a; fin_cases a <;> rfl)]
  rw [h, slots_eq]
  unfold slotsV
  rw [← bits_eq i]
  rfl

/-- What the body leaves in the second window's buffer. -/
theorem out2 (x0 : Vec Ideal S8x1x1024 .f32) (i : S1x512.Idx) : out0_2 x0 i = BitVec.ofNat 32 ((i 1).val / 64) := by
  unfold out0_2
  rw [View.canon_unit_zero (by funext a; fin_cases a <;> rfl)]
  exact bidx_eq i

/-- What one batch's sequence computes. -/
theorem chain (v : Vec Ideal S1x1x1024 .f32) (x : S3x64x1024.Idx) :
    broadcastTo S3x64x1024 (shapeCast S1x1x1024 (mulf (shapeCast S1x1x1024 (shapeCast S1024 v shapeCasts_S1x1x1024_S1024) shapeCasts_S1024_S1x1x1024)
      (broadcast S1x1x1024 (Scalar.ofBits .f32 0xC9742400#32 : Ideal .f32))) shapeCasts_S1x1x1024_S1x1x1024) broadcasts_S1x1x1024_S3x64x1024 x
      = v (ix3 0 0 (x 2)) * c 0xC9742400#32 := by
  rw [shapeCast_self, shapeCast_shapeCast]
  exact broadcastTo_apply _ _ x (ix3 0 0 (x 2) : S1x1x1024.Idx) (by intro a; fin_cases a <;> rfl)

/-- What the body leaves in the third window's buffer. -/
theorem out3 (x0 : Vec Ideal S8x1x1024 .f32) (i : S3x512x1024.Idx) :
    out0_3 x0 i = x0 (ix3 ⟨(i 1).val / 64, Nat.div_lt_of_lt_mul (i 1).isLt⟩ 0 (i 2)) * c 0xC9742400#32 := by
  canon_tiles x h
  all_goals
    refine (chain _ x).trans (congrArg (· * c 0xC9742400#32) (congrArg x0 (funext fun a => Fin.ext ?_)))
    fin_cases a
    · simp [ix3]
      omega
    · simp [ix3]
    · simp [ix3, h2]

/-- A bit as a number, times the fill, is the choice between the fill and zero. -/
theorem fill_eq (b : BitVec 1) : FloatOps.uitofp (F := Ideal) .f32 b * c 0xC9742400#32 = pick b (c 0xC9742400#32) (c 0#32) := by
  show (((b.toNat : ℝ) : EReal)) * _ = _
  rcases bit_cases b with rfl | rfl
  · rw [pick_zero, c_zero]; simp
  · rw [pick_one]; simp

/-- The host's lines before the call: the mask as numbers. -/
theorem v1_read (m : (ℓ : Loc nD τ sig) → Buf (Elt Ideal) ℓ) (d : Dev nD) (b : Fin 8) (k : Fin 1024) :
    V m d main_v1 (ix3 b 0 k) = FloatOps.uitofp (F := Ideal) .f32 ((m ((d.tc : Thread nD τ).loc main_arg1) : S8x32x32.Idx → BitVec 1)
      (ix3 b ⟨k.val / 32, by omega⟩ ⟨k.val % 32, by omega⟩)) := by
  unfold V V0
  simp only [hostOps0, List.flatten_cons, List.flatten_nil, List.append_nil]
  after_reads_at

/-- The one block of the input window is the whole array of numbers. -/
theorem iblk_eq (m : (ℓ : Loc nD τ sig) → Buf (Elt Ideal) ℓ) (d : Dev nD) : iblk m d 0 t0_0 = V m d main_v1 := by
  have e0 : win0_0.index t0_0 0 = 0 := by decide +kernel
  have e1 : win0_0.index t0_0 1 = 0 := by decide +kernel
  have e2 : win0_0.index t0_0 2 = 0 := by decide +kernel
  blk_ext! [iblk, V, e0, e1, e2]

/-- The first window's array after the run. -/
theorem final1 (m : (ℓ : Loc nD τ sig) → Buf (Elt Ideal) ℓ) (d : Dev nD) : (dats m 0 d).arrAt 1 cfg0.N = slotsV := by
  refine (dats m 0 d).arrAt_eq_of_after_last 1 t0_0 (by decide +kernel) _ fun j => ?_
  blk_simp
  rw [after0_1]
  exact out1 _ j

/-- The second window's array after the run. -/
theorem final2 (m : (ℓ : Loc nD τ sig) → Buf (Elt Ideal) ℓ) (d : Dev nD) :
    (dats m 0 d).arrAt 2 cfg0.N = fun i : S1x512.Idx => BitVec.ofNat 32 ((i 1).val / 64) := by
  refine (dats m 0 d).arrAt_eq_of_after_last 2 t0_0 (by decide +kernel) _ fun j => ?_
  blk_simp
  rw [after0_2]
  exact out2 _ j

/-- The third window's array after the run, by the mask. -/
theorem final3 (m : (ℓ : Loc nD τ sig) → Buf (Elt Ideal) ℓ) (d : Dev nD) :
    (dats m 0 d).arrAt 3 cfg0.N = fun i : S3x512x1024.Idx =>
      segV (m ((d.tc : Thread nD τ).loc main_arg1)) (ix3 (i 1) (i 0) (i 2)) := by
  refine (dats m 0 d).arrAt_eq_of_after_last 3 t0_0 (by decide +kernel) _ fun j => ?_
  blk_simp
  rw [after0_3]
  refine (out3 _ j).trans ?_
  rw [iblk_eq]
  exact (congrArg (· * c 0xC9742400#32) (v1_read m d _ _)).trans (fill_eq _)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ d : Dev nD,
      r.2.mem ((d.tc : Thread nD τ).loc main_v2_0) = slotsV
      ∧ r.2.mem ((d.tc : Thread nD τ).loc main_v3) = bidxV
      ∧ r.2.mem ((d.tc : Thread nD τ).loc main_v4) = segV (m ((d.tc : Thread nD τ).loc main_arg1))) := by
  refine (θ_run defs _ _).mono (fun r h d => ?_) (run_main m ρ)
  obtain ⟨hw, hr⟩ := h d
  refine ⟨?_, ?_, ?_⟩
  · exact (hw 1).trans (final1 m d)
  · refine (hr main_v3 (Pipeline.mem_restRefs_of main_v3 (by decide) (by decide))).trans ?_
    unfold Pipeline.afterTail₀
    have e := (Pipeline.withArrays_arr spec0 launch0.win.arr_inj d (V0 m d) (fun w => (dats m 0 d).arrAt w cfg0.N) 2).trans (final2 m d)
    generalize Pipeline.withArrays _ _ _ _ = W at *
    funext i
    simp only [hostOps1, List.flatten_cons, List.flatten_nil, List.append_nil]
    after_reads_at
    exact congrFun e (ix2 0 (i 0))
  · refine (hr main_v4 (Pipeline.mem_restRefs_of main_v4 (by decide) (by decide))).trans ?_
    unfold Pipeline.afterTail₀
    have e := (Pipeline.withArrays_arr spec0 launch0.win.arr_inj d (V0 m d) (fun w => (dats m 0 d).arrAt w cfg0.N) 3).trans (final3 m d)
    generalize Pipeline.withArrays _ _ _ _ = W at *
    funext i
    simp only [hostOps1, List.flatten_cons, List.flatten_nil, List.append_nil]
    after_reads_at
    exact (congrFun e (ix3 (i 1) (i 0) (i 2))).trans (congrArg (segV _) (funext fun a => by fin_cases a <;> rfl))

end Cert.FusedIdeal.Val

end
-- ==== Proof.Ref.Ops.lean ====
/- The reference's host program as its list of operations, in five pieces: the key's construction, the key split (with its
   threefry hash), the counters, the hash of the 512×256 counters, and the rest of `main`. -/
module

public import proofs.«01_k».proof.Proof.Gen.ReferenceIdeal
public import Idealize.ShloMosaic.Lib.Pipeline.Value
public import Idealize.ShloMosaic.Lib.StableHlo.RunHlo
public import Idealize.ShloMosaic.Lib.StableHlo.RunRead
public import Idealize.ShloMosaic.Lib.Claim
public import Idealize.ShloMosaic.Lib.Quiescent
public import Idealize.ShloMosaic.PureOps.Ideal
public import Idealize.ShloMosaic.Adequacy
public import Idealize.ShloMosaic.Init

@[expose] public section

noncomputable section

namespace Cert.ReferenceIdeal.Val

open Idealize.ShloMosaic Idealize.SL.Sem Idealize.ShloMosaic.StableHlo Cert.ReferenceIdeal Cert.ReferenceIdeal.Gen

/-- A program that runs two straight lines one after the other runs the two lists of operations one after the other. -/
theorem isSeq_append {nD : ℕ} {τ : Topo} {sig : RefSig} {Val : EltTy → Type} {Λ : Labels}
    {p q : Prog (TpuEff nD τ sig Val Λ .tc) PUnit} {l k : List (HloOp τ sig Val)} (hp : IsSeq p l) (hq : IsSeq q k) :
    IsSeq (p >>= fun _ => q) (l ++ k) := by
  unfold IsSeq at *
  rw [hp, hq, seq_append]

abbrev Op := HloOp τ sig (Elt Ideal)
abbrev HProg := Prog (TpuEff nD τ sig (Elt Ideal) (Pipeline.Sig Λ₀ (Fin 0) fun p => (pcfgs (F := Ideal) p).Adm) .tc) PUnit

set_option maxHeartbeats 4000000
set_option maxRecDepth 100000

/-- A straight line of operations with the program it is read off. -/
abbrev Line (p : HProg) := {l : List Op // IsSeq p l}

/- The operations of the hash of the three split counters, in the four parts the program is printed in. -/
def tfA0 : Line (fn_threefry2x32.body_part0 main_call0.v1 main_call0.v3 main_call0.v10 main_call0.v9 main_call0.call0) := by
  apply Subtype.mk
  case property => unfold fn_threefry2x32.body_part0; hlo_seq

def tfA1 : Line (fn_threefry2x32.body_part1 main_call0.v1 main_call0.v3 main_call0.v10 main_call0.v9 main_call0.call0) := by
  apply Subtype.mk
  case property => unfold fn_threefry2x32.body_part1; hlo_seq

def tfA2 : Line (fn_threefry2x32.body_part2 main_call0.v1 main_call0.v3 main_call0.v10 main_call0.v9 main_call0.call0) := by
  apply Subtype.mk
  case property => unfold fn_threefry2x32.body_part2; hlo_seq

def tfA3 : Line (fn_threefry2x32.body_part3 main_call0.v1 main_call0.v3 main_call0.v10 main_call0.v9 main_call0.call0) := by
  apply Subtype.mk
  case property => unfold fn_threefry2x32.body_part3; hlo_seq

/-- The operations of the hash of the three split counters. -/
def tfA : Line (fn_threefry2x32.body main_call0.v1 main_call0.v3 main_call0.v10 main_call0.v9 main_call0.call0) :=
  ⟨tfA0.1 ++ (tfA1.1 ++ (tfA2.1 ++ tfA3.1)), isSeq_append tfA0.2 (isSeq_append tfA1.2 (isSeq_append tfA2.2 tfA3.2))⟩

/-- The operations of the key split. -/
def splitL : Line (fn_threefry_split.body (.of main_v6) main_call0) := by
  apply Subtype.mk
  case property =>
    unfold fn_threefry_split.body
    iterate 13 apply IsSeq.cons
    apply isSeq_append tfA.2
    hlo_seq

/- The operations of the hash of the 512×256 counters, in the four parts the program is printed in. -/
def tfB0 : Line (fn_threefry2x32_0.body_part0 (.of main_v15) (.of main_v17) (.of main_v28) (.of main_v27) main_call1) := by
  apply Subtype.mk
  case property => unfold fn_threefry2x32_0.body_part0; hlo_seq

def tfB1 : Line (fn_threefry2x32_0.body_part1 (.of main_v15) (.of main_v17) (.of main_v28) (.of main_v27) main_call1) := by
  apply Subtype.mk
  case property => unfold fn_threefry2x32_0.body_part1; hlo_seq

def tfB2 : Line (fn_threefry2x32_0.body_part2 (.of main_v15) (.of main_v17) (.of main_v28) (.of main_v27) main_call1) := by
  apply Subtype.mk
  case property => unfold fn_threefry2x32_0.body_part2; hlo_seq

def tfB3 : Line (fn_threefry2x32_0.body_part3 (.of main_v15) (.of main_v17) (.of main_v28) (.of main_v27) main_call1) := by
  apply Subtype.mk
  case property => unfold fn_threefry2x32_0.body_part3; hlo_seq

/-- The operations of the hash of the 512×256 counters. -/
def tfB : Line (fn_threefry2x32_0.body (.of main_v15) (.of main_v17) (.of main_v28) (.of main_v27) main_call1) :=
  ⟨tfB0.1 ++ (tfB1.1 ++ (tfB2.1 ++ tfB3.1)), isSeq_append tfB0.2 (isSeq_append tfB1.2 (isSeq_append tfB2.2 tfB3.2))⟩

/-- The first 60 statements of `main`. -/
def main0 (d : Dev nD) : Line (main_part0 (F := Ideal) d) := by
  apply Subtype.mk
  case property =>
    unfold main_part0
    iterate 10 apply IsSeq.cons
    apply isSeq_append splitL.2
    iterate 24 apply IsSeq.cons
    apply isSeq_append tfB.2
    hlo_seq

/-- `_where` of one call. -/
def whereL (a b c φ) : Line (fn_where.body a b c φ) := by
  apply Subtype.mk
  case property => unfold fn_where.body; hlo_seq

def where1L (a b c φ) : Line (fn_where_1.body a b c φ) := by
  apply Subtype.mk
  case property => unfold fn_where_1.body; hlo_seq

def where2L (a b c φ) : Line (fn_where_2.body a b c φ) := by
  apply Subtype.mk
  case property => unfold fn_where_2.body; hlo_seq

def main1 (d : Dev nD) : Line (main_part1 (F := Ideal) d) := by
  apply Subtype.mk
  case property =>
    unfold main_part1
    repeat (first | with_reducible apply IsSeq.cons | apply isSeq_append (whereL _ _ _ _).2 | apply isSeq_append (where1L _ _ _ _).2 | exact IsSeq.nil)

def main2 (d : Dev nD) : Line (main_part2 (F := Ideal) d) := by
  apply Subtype.mk
  case property =>
    unfold main_part2
    repeat (first | with_reducible apply IsSeq.cons | apply isSeq_append (whereL _ _ _ _).2 | apply isSeq_append (where2L _ _ _ _).2 | exact IsSeq.nil)

def mainL (d : Dev nD) : Line (main (F := Ideal) d) :=
  ⟨(main0 d).1 ++ ((main1 d).1 ++ (main2 d).1), isSeq_append (main0 d).2 (isSeq_append (main1 d).2 (main2 d).2)⟩

end Cert.ReferenceIdeal.Val

end
-- ==== Proof.Ref.Shifts.lean ====
/- Readings of the host's shifts by a literal amount, and of a scalar spread over an array. -/
module

public import proofs.«01_k».proof.Proof.Ref.Ops

@[expose] public section

noncomputable section

namespace Cert.ReferenceIdeal.Val

open Idealize.ShloMosaic Idealize.SL.Sem Idealize.ShloMosaic.StableHlo Cert.ReferenceIdeal Cert.ReferenceIdeal.Gen

/-- The contents of every buffer. -/
abbrev Val := Valuation τ sig (Elt Ideal)

/-- The word a scalar holds, and the words an array holds. -/
def wv (x : (⟨S_, .i32⟩ : BufTy).Contents (Elt Ideal)) : BitVec 32 := x fun a => a.elim0
def wdS512x256 (x : (⟨S512x256, .i32⟩ : BufTy).Contents (Elt Ideal)) (i : S512x256.Idx) : BitVec 32 := x i
def wdS3 (x : (⟨S3, .i32⟩ : BufTy).Contents (Elt Ideal)) (i : S3.Idx) : BitVec 32 := x i

/-- A shift by an amount that is in range at every element is the words' shift. -/
theorem hshli {s : Shape} (x : IVec s 32) (a : BitVec 32) (h : a.toNat < 32 := by decide) (i : s.Idx) :
    Host.shli x (fun _ => a) i = x i <<< a := by
  simp only [Host.shli, IntOp.shli, if_pos h]

theorem hshrui {s : Shape} (x : IVec s 32) (a : BitVec 32) (h : a.toNat < 32 := by decide) (i : s.Idx) :
    Host.shrui x (fun _ => a) i = x i >>> a := by
  simp only [Host.shrui, IntOp.shrui, if_pos h]

/-- A scalar spread over an array holds the scalar everywhere. -/
theorem bcast0 {α : Type} {t : Shape} (dims) (h) (x : S_.Idx → α) :
    broadcastInDim (s := S_) t dims h x = fun _ => x (fun a => a.elim0) :=
  funext fun _ => congrArg x (funext fun a => a.elim0)

end Cert.ReferenceIdeal.Val

end
-- ==== Proof.Ref.HashA.lean ====
/- What the reference's hash of the three split counters leaves in its two results, for any contents of its arguments. -/
module

public import proofs.«01_k».proof.Proof.Ref.Ops
public import proofs.«01_k».proof.Proof.Ref.Shifts
public import proofs.«01_k».proof.Proof.Math.Threefry

@[expose] public section

noncomputable section

namespace Cert.ReferenceIdeal.Val

open Idealize.ShloMosaic Idealize.SL.Sem Idealize.ShloMosaic.StableHlo Cert.ReferenceIdeal Cert.ReferenceIdeal.Gen Cert.Math

set_option maxHeartbeats 4000000
set_option maxRecDepth 100000

variable (V : Val)

/-- `n` operations of the hash from the `k`-th on. -/
def tfAc (k n : ℕ) : List Op := (tfA.1.drop k).take n

theorem tfA_cut : tfA.1 = tfAc 0 50 ++ (tfAc 50 43 ++ (tfAc 93 43 ++ (tfAc 136 43 ++ tfAc 179 43))) := rfl

/-- The first word after 1 groups of rounds. -/
theorem tfA_g1_1 : after (tfAc 0 50) V (no_index (Proc.devRef .tc main_call0_call0_v35)) =
    fun (i : S3.Idx) => (st1 (wv (V (Proc.devRef .tc main_call0_v1))) (wv (V (Proc.devRef .tc main_call0_v3))) (wdS3 (V (Proc.devRef .tc main_call0_v10)) i) (wdS3 (V (Proc.devRef .tc main_call0_v9)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS3]
  try rfl

/-- The second word after 1 groups of rounds. -/
theorem tfA_g1_2 : after (tfAc 0 50) V (no_index (Proc.devRef .tc main_call0_call0_v39)) =
    fun (i : S3.Idx) => (st1 (wv (V (Proc.devRef .tc main_call0_v1))) (wv (V (Proc.devRef .tc main_call0_v3))) (wdS3 (V (Proc.devRef .tc main_call0_v10)) i) (wdS3 (V (Proc.devRef .tc main_call0_v9)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS3]
  try rfl

/-- The third word of the key. -/
theorem tfA_key : wv (after (tfAc 0 50) V (Proc.devRef .tc main_call0_call0_v1)) = key2 (wv (V (Proc.devRef .tc main_call0_v1))) (wv (V (Proc.devRef .tc main_call0_v3))) := by
  after_reads_simp
  simp -implicitDefEqProofs only [StableHlo.TRef.toBuf, StableHlo.TRef.ofBuf, cast_cast, cast_eq]
  simp only [xori, constantI, IntOp.xori, key2, wv]

theorem tfA_g1_k0 : after (tfAc 0 50) V (no_index (Proc.devRef .tc main_call0_v1)) = V (Proc.devRef .tc main_call0_v1) := by
  after_reads_simp

theorem tfA_g1_k1 : after (tfAc 0 50) V (no_index (Proc.devRef .tc main_call0_v3)) = V (Proc.devRef .tc main_call0_v3) := by
  after_reads_simp

/-- The first word after 2 groups of rounds. -/
theorem tfA_g2_1 : after (tfAc 50 43) V (no_index (Proc.devRef .tc main_call0_call0_v69)) =
    fun (i : S3.Idx) => (grpB (wv (V (Proc.devRef .tc main_call0_call0_v1))) (wv (V (Proc.devRef .tc main_call0_v1))) 2#32 (wdS3 (V (Proc.devRef .tc main_call0_call0_v35)) i, wdS3 (V (Proc.devRef .tc main_call0_call0_v39)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS3]
  try rfl

/-- The second word after 2 groups of rounds. -/
theorem tfA_g2_2 : after (tfAc 50 43) V (no_index (Proc.devRef .tc main_call0_call0_v73)) =
    fun (i : S3.Idx) => (grpB (wv (V (Proc.devRef .tc main_call0_call0_v1))) (wv (V (Proc.devRef .tc main_call0_v1))) 2#32 (wdS3 (V (Proc.devRef .tc main_call0_call0_v35)) i, wdS3 (V (Proc.devRef .tc main_call0_call0_v39)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS3]
  try rfl

theorem tfA_g2_k0 : after (tfAc 50 43) V (no_index (Proc.devRef .tc main_call0_v1)) = V (Proc.devRef .tc main_call0_v1) := by
  after_reads_simp

theorem tfA_g2_k1 : after (tfAc 50 43) V (no_index (Proc.devRef .tc main_call0_v3)) = V (Proc.devRef .tc main_call0_v3) := by
  after_reads_simp

theorem tfA_g2_k2 : after (tfAc 50 43) V (no_index (Proc.devRef .tc main_call0_call0_v1)) = V (Proc.devRef .tc main_call0_call0_v1) := by
  after_reads_simp

/-- The first word after 3 groups of rounds. -/
theorem tfA_g3_1 : after (tfAc 93 43) V (no_index (Proc.devRef .tc main_call0_call0_v103)) =
    fun (i : S3.Idx) => (grpA (wv (V (Proc.devRef .tc main_call0_v1))) (wv (V (Proc.devRef .tc main_call0_v3))) 3#32 (wdS3 (V (Proc.devRef .tc main_call0_call0_v69)) i, wdS3 (V (Proc.devRef .tc main_call0_call0_v73)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS3]
  try rfl

/-- The second word after 3 groups of rounds. -/
theorem tfA_g3_2 : after (tfAc 93 43) V (no_index (Proc.devRef .tc main_call0_call0_v107)) =
    fun (i : S3.Idx) => (grpA (wv (V (Proc.devRef .tc main_call0_v1))) (wv (V (Proc.devRef .tc main_call0_v3))) 3#32 (wdS3 (V (Proc.devRef .tc main_call0_call0_v69)) i, wdS3 (V (Proc.devRef .tc main_call0_call0_v73)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS3]
  try rfl

theorem tfA_g3_k0 : after (tfAc 93 43) V (no_index (Proc.devRef .tc main_call0_v1)) = V (Proc.devRef .tc main_call0_v1) := by
  after_reads_simp

theorem tfA_g3_k1 : after (tfAc 93 43) V (no_index (Proc.devRef .tc main_call0_v3)) = V (Proc.devRef .tc main_call0_v3) := by
  after_reads_simp

theorem tfA_g3_k2 : after (tfAc 93 43) V (no_index (Proc.devRef .tc main_call0_call0_v1)) = V (Proc.devRef .tc main_call0_call0_v1) := by
  after_reads_simp

/-- The first word after 4 groups of rounds. -/
theorem tfA_g4_1 : after (tfAc 136 43) V (no_index (Proc.devRef .tc main_call0_call0_v137)) =
    fun (i : S3.Idx) => (grpB (wv (V (Proc.devRef .tc main_call0_v3))) (wv (V (Proc.devRef .tc main_call0_call0_v1))) 4#32 (wdS3 (V (Proc.devRef .tc main_call0_call0_v103)) i, wdS3 (V (Proc.devRef .tc main_call0_call0_v107)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS3]
  try rfl

/-- The second word after 4 groups of rounds. -/
theorem tfA_g4_2 : after (tfAc 136 43) V (no_index (Proc.devRef .tc main_call0_call0_v141)) =
    fun (i : S3.Idx) => (grpB (wv (V (Proc.devRef .tc main_call0_v3))) (wv (V (Proc.devRef .tc main_call0_call0_v1))) 4#32 (wdS3 (V (Proc.devRef .tc main_call0_call0_v103)) i, wdS3 (V (Proc.devRef .tc main_call0_call0_v107)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS3]
  try rfl

theorem tfA_g4_k0 : after (tfAc 136 43) V (no_index (Proc.devRef .tc main_call0_v1)) = V (Proc.devRef .tc main_call0_v1) := by
  after_reads_simp

theorem tfA_g4_k1 : after (tfAc 136 43) V (no_index (Proc.devRef .tc main_call0_v3)) = V (Proc.devRef .tc main_call0_v3) := by
  after_reads_simp

theorem tfA_g4_k2 : after (tfAc 136 43) V (no_index (Proc.devRef .tc main_call0_call0_v1)) = V (Proc.devRef .tc main_call0_call0_v1) := by
  after_reads_simp

/-- The first word after 5 groups of rounds. -/
theorem tfA_g5_1 : after (tfAc 179 43) V (no_index (Proc.devRef .tc main_call0_v11_0)) =
    fun (i : S3.Idx) => (grpA (wv (V (Proc.devRef .tc main_call0_call0_v1))) (wv (V (Proc.devRef .tc main_call0_v1))) 5#32 (wdS3 (V (Proc.devRef .tc main_call0_call0_v137)) i, wdS3 (V (Proc.devRef .tc main_call0_call0_v141)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS3]
  try rfl

/-- The second word after 5 groups of rounds. -/
theorem tfA_g5_2 : after (tfAc 179 43) V (no_index (Proc.devRef .tc main_call0_v11_1)) =
    fun (i : S3.Idx) => (grpA (wv (V (Proc.devRef .tc main_call0_call0_v1))) (wv (V (Proc.devRef .tc main_call0_v1))) 5#32 (wdS3 (V (Proc.devRef .tc main_call0_call0_v137)) i, wdS3 (V (Proc.devRef .tc main_call0_call0_v141)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS3]
  try rfl

/-- The hash's first result. -/
theorem tfA_out1 : after tfA.1 V (no_index (Proc.devRef .tc main_call0_v11_0)) =
    fun (i : S3.Idx) => (hash (wv (V (Proc.devRef .tc main_call0_v1))) (wv (V (Proc.devRef .tc main_call0_v3))) (wdS3 (V (Proc.devRef .tc main_call0_v10)) i) (wdS3 (V (Proc.devRef .tc main_call0_v9)) i)).1 := by
  rw [tfA_cut]
  simp only [after_append, tfA_g1_1, tfA_g1_2, tfA_g2_1, tfA_g2_2, tfA_g3_1, tfA_g3_2, tfA_g4_1, tfA_g4_2, tfA_g5_1, tfA_g5_2, tfA_g1_k0, tfA_g1_k1, tfA_g2_k0, tfA_g2_k1, tfA_g2_k2, tfA_g3_k0, tfA_g3_k1, tfA_g3_k2, tfA_g4_k0, tfA_g4_k1, tfA_g4_k2, tfA_key]
  rfl

/-- The hash's second result. -/
theorem tfA_out2 : after tfA.1 V (no_index (Proc.devRef .tc main_call0_v11_1)) =
    fun (i : S3.Idx) => (hash (wv (V (Proc.devRef .tc main_call0_v1))) (wv (V (Proc.devRef .tc main_call0_v3))) (wdS3 (V (Proc.devRef .tc main_call0_v10)) i) (wdS3 (V (Proc.devRef .tc main_call0_v9)) i)).2 := by
  rw [tfA_cut]
  simp only [after_append, tfA_g1_1, tfA_g1_2, tfA_g2_1, tfA_g2_2, tfA_g3_1, tfA_g3_2, tfA_g4_1, tfA_g4_2, tfA_g5_1, tfA_g5_2, tfA_g1_k0, tfA_g1_k1, tfA_g2_k0, tfA_g2_k1, tfA_g2_k2, tfA_g3_k0, tfA_g3_k1, tfA_g3_k2, tfA_g4_k0, tfA_g4_k1, tfA_g4_k2, tfA_key]
  rfl

end Cert.ReferenceIdeal.Val

end
-- ==== Proof.Ref.HashB.lean ====
/- What the reference's hash of the 512×256 counters leaves in its two results, for any contents of its arguments. -/
module

public import proofs.«01_k».proof.Proof.Ref.Ops
public import proofs.«01_k».proof.Proof.Ref.Shifts
public import proofs.«01_k».proof.Proof.Math.Threefry

@[expose] public section

noncomputable section

namespace Cert.ReferenceIdeal.Val

open Idealize.ShloMosaic Idealize.SL.Sem Idealize.ShloMosaic.StableHlo Cert.ReferenceIdeal Cert.ReferenceIdeal.Gen Cert.Math

set_option maxHeartbeats 4000000
set_option maxRecDepth 100000

variable (V : Val)

/-- `n` operations of the hash from the `k`-th on. -/
def tfBc (k n : ℕ) : List Op := (tfB.1.drop k).take n

theorem tfB_cut : tfB.1 = tfBc 0 50 ++ (tfBc 50 43 ++ (tfBc 93 43 ++ (tfBc 136 43 ++ tfBc 179 43))) := rfl

/-- The first word after 1 groups of rounds. -/
theorem tfB_g1_1 : after (tfBc 0 50) V (no_index (Proc.devRef .tc main_call1_v35)) =
    fun (i : S512x256.Idx) => (st1 (wv (V (Proc.devRef .tc main_v15))) (wv (V (Proc.devRef .tc main_v17))) (wdS512x256 (V (Proc.devRef .tc main_v28)) i) (wdS512x256 (V (Proc.devRef .tc main_v27)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS512x256]
  try rfl

/-- The second word after 1 groups of rounds. -/
theorem tfB_g1_2 : after (tfBc 0 50) V (no_index (Proc.devRef .tc main_call1_v39)) =
    fun (i : S512x256.Idx) => (st1 (wv (V (Proc.devRef .tc main_v15))) (wv (V (Proc.devRef .tc main_v17))) (wdS512x256 (V (Proc.devRef .tc main_v28)) i) (wdS512x256 (V (Proc.devRef .tc main_v27)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS512x256]
  try rfl

/-- The third word of the key. -/
theorem tfB_key : wv (after (tfBc 0 50) V (Proc.devRef .tc main_call1_v1)) = key2 (wv (V (Proc.devRef .tc main_v15))) (wv (V (Proc.devRef .tc main_v17))) := by
  after_reads_simp
  simp -implicitDefEqProofs only [StableHlo.TRef.toBuf, StableHlo.TRef.ofBuf, cast_cast, cast_eq]
  simp only [xori, constantI, IntOp.xori, key2, wv]

theorem tfB_g1_k0 : after (tfBc 0 50) V (no_index (Proc.devRef .tc main_v15)) = V (Proc.devRef .tc main_v15) := by
  after_reads_simp

theorem tfB_g1_k1 : after (tfBc 0 50) V (no_index (Proc.devRef .tc main_v17)) = V (Proc.devRef .tc main_v17) := by
  after_reads_simp

/-- The first word after 2 groups of rounds. -/
theorem tfB_g2_1 : after (tfBc 50 43) V (no_index (Proc.devRef .tc main_call1_v69)) =
    fun (i : S512x256.Idx) => (grpB (wv (V (Proc.devRef .tc main_call1_v1))) (wv (V (Proc.devRef .tc main_v15))) 2#32 (wdS512x256 (V (Proc.devRef .tc main_call1_v35)) i, wdS512x256 (V (Proc.devRef .tc main_call1_v39)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS512x256]
  try rfl

/-- The second word after 2 groups of rounds. -/
theorem tfB_g2_2 : after (tfBc 50 43) V (no_index (Proc.devRef .tc main_call1_v73)) =
    fun (i : S512x256.Idx) => (grpB (wv (V (Proc.devRef .tc main_call1_v1))) (wv (V (Proc.devRef .tc main_v15))) 2#32 (wdS512x256 (V (Proc.devRef .tc main_call1_v35)) i, wdS512x256 (V (Proc.devRef .tc main_call1_v39)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS512x256]
  try rfl

theorem tfB_g2_k0 : after (tfBc 50 43) V (no_index (Proc.devRef .tc main_v15)) = V (Proc.devRef .tc main_v15) := by
  after_reads_simp

theorem tfB_g2_k1 : after (tfBc 50 43) V (no_index (Proc.devRef .tc main_v17)) = V (Proc.devRef .tc main_v17) := by
  after_reads_simp

theorem tfB_g2_k2 : after (tfBc 50 43) V (no_index (Proc.devRef .tc main_call1_v1)) = V (Proc.devRef .tc main_call1_v1) := by
  after_reads_simp

/-- The first word after 3 groups of rounds. -/
theorem tfB_g3_1 : after (tfBc 93 43) V (no_index (Proc.devRef .tc main_call1_v103)) =
    fun (i : S512x256.Idx) => (grpA (wv (V (Proc.devRef .tc main_v15))) (wv (V (Proc.devRef .tc main_v17))) 3#32 (wdS512x256 (V (Proc.devRef .tc main_call1_v69)) i, wdS512x256 (V (Proc.devRef .tc main_call1_v73)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS512x256]
  try rfl

/-- The second word after 3 groups of rounds. -/
theorem tfB_g3_2 : after (tfBc 93 43) V (no_index (Proc.devRef .tc main_call1_v107)) =
    fun (i : S512x256.Idx) => (grpA (wv (V (Proc.devRef .tc main_v15))) (wv (V (Proc.devRef .tc main_v17))) 3#32 (wdS512x256 (V (Proc.devRef .tc main_call1_v69)) i, wdS512x256 (V (Proc.devRef .tc main_call1_v73)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS512x256]
  try rfl

theorem tfB_g3_k0 : after (tfBc 93 43) V (no_index (Proc.devRef .tc main_v15)) = V (Proc.devRef .tc main_v15) := by
  after_reads_simp

theorem tfB_g3_k1 : after (tfBc 93 43) V (no_index (Proc.devRef .tc main_v17)) = V (Proc.devRef .tc main_v17) := by
  after_reads_simp

theorem tfB_g3_k2 : after (tfBc 93 43) V (no_index (Proc.devRef .tc main_call1_v1)) = V (Proc.devRef .tc main_call1_v1) := by
  after_reads_simp

/-- The first word after 4 groups of rounds. -/
theorem tfB_g4_1 : after (tfBc 136 43) V (no_index (Proc.devRef .tc main_call1_v137)) =
    fun (i : S512x256.Idx) => (grpB (wv (V (Proc.devRef .tc main_v17))) (wv (V (Proc.devRef .tc main_call1_v1))) 4#32 (wdS512x256 (V (Proc.devRef .tc main_call1_v103)) i, wdS512x256 (V (Proc.devRef .tc main_call1_v107)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS512x256]
  try rfl

/-- The second word after 4 groups of rounds. -/
theorem tfB_g4_2 : after (tfBc 136 43) V (no_index (Proc.devRef .tc main_call1_v141)) =
    fun (i : S512x256.Idx) => (grpB (wv (V (Proc.devRef .tc main_v17))) (wv (V (Proc.devRef .tc main_call1_v1))) 4#32 (wdS512x256 (V (Proc.devRef .tc main_call1_v103)) i, wdS512x256 (V (Proc.devRef .tc main_call1_v107)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpB, inj,
    rnd, rot, key2, wv, wdS512x256]
  try rfl

theorem tfB_g4_k0 : after (tfBc 136 43) V (no_index (Proc.devRef .tc main_v15)) = V (Proc.devRef .tc main_v15) := by
  after_reads_simp

theorem tfB_g4_k1 : after (tfBc 136 43) V (no_index (Proc.devRef .tc main_v17)) = V (Proc.devRef .tc main_v17) := by
  after_reads_simp

theorem tfB_g4_k2 : after (tfBc 136 43) V (no_index (Proc.devRef .tc main_call1_v1)) = V (Proc.devRef .tc main_call1_v1) := by
  after_reads_simp

/-- The first word after 5 groups of rounds. -/
theorem tfB_g5_1 : after (tfBc 179 43) V (no_index (Proc.devRef .tc main_v29_0)) =
    fun (i : S512x256.Idx) => (grpA (wv (V (Proc.devRef .tc main_call1_v1))) (wv (V (Proc.devRef .tc main_v15))) 5#32 (wdS512x256 (V (Proc.devRef .tc main_call1_v137)) i, wdS512x256 (V (Proc.devRef .tc main_call1_v141)) i)).1 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS512x256]
  try rfl

/-- The second word after 5 groups of rounds. -/
theorem tfB_g5_2 : after (tfBc 179 43) V (no_index (Proc.devRef .tc main_v29_1)) =
    fun (i : S512x256.Idx) => (grpA (wv (V (Proc.devRef .tc main_call1_v1))) (wv (V (Proc.devRef .tc main_v15))) 5#32 (wdS512x256 (V (Proc.devRef .tc main_call1_v137)) i, wdS512x256 (V (Proc.devRef .tc main_call1_v141)) i)).2 := by
  after_reads_simp
  simp -implicitDefEqProofs only [StableHlo.TRef.toBuf, StableHlo.TRef.ofBuf, cast_cast, cast_eq]
  funext i
  simp only [addi, xori, ori, hshli, hshrui, bcast0, constantI, IntOp.addi, IntOp.xori, IntOp.ori, st1, st0, grpA, inj,
    rnd, rot, key2, wv, wdS512x256]
  try rfl

/-- The hash's first result. -/
theorem tfB_out1 : after tfB.1 V (no_index (Proc.devRef .tc main_v29_0)) =
    fun (i : S512x256.Idx) => (hash (wv (V (Proc.devRef .tc main_v15))) (wv (V (Proc.devRef .tc main_v17))) (wdS512x256 (V (Proc.devRef .tc main_v28)) i) (wdS512x256 (V (Proc.devRef .tc main_v27)) i)).1 := by
  rw [tfB_cut]
  simp only [after_append, tfB_g1_1, tfB_g1_2, tfB_g2_1, tfB_g2_2, tfB_g3_1, tfB_g3_2, tfB_g4_1, tfB_g4_2, tfB_g5_1, tfB_g5_2, tfB_g1_k0, tfB_g1_k1, tfB_g2_k0, tfB_g2_k1, tfB_g2_k2, tfB_g3_k0, tfB_g3_k1, tfB_g3_k2, tfB_g4_k0, tfB_g4_k1, tfB_g4_k2, tfB_key]
  rfl

/-- The hash's second result. -/
theorem tfB_out2 : after tfB.1 V (no_index (Proc.devRef .tc main_v29_1)) =
    fun (i : S512x256.Idx) => (hash (wv (V (Proc.devRef .tc main_v15))) (wv (V (Proc.devRef .tc main_v17))) (wdS512x256 (V (Proc.devRef .tc main_v28)) i) (wdS512x256 (V (Proc.devRef .tc main_v27)) i)).2 := by
  rw [tfB_cut]
  simp only [after_append, tfB_g1_1, tfB_g1_2, tfB_g2_1, tfB_g2_2, tfB_g3_1, tfB_g3_2, tfB_g4_1, tfB_g4_2, tfB_g5_1, tfB_g5_2, tfB_g1_k0, tfB_g1_k1, tfB_g2_k0, tfB_g2_k1, tfB_g2_k2, tfB_g3_k0, tfB_g3_k1, tfB_g3_k2, tfB_g4_k0, tfB_g4_k1, tfB_g4_k2, tfB_key]
  rfl

end Cert.ReferenceIdeal.Val

end
-- ==== Proof.Ref.Reads.lean ====
/- What the reference's results hold: the host program cut into chunks, each read for any contents before it. -/
module

public import proofs.«01_k».proof.Proof.Ref.HashA
public import proofs.«01_k».proof.Proof.Ref.HashB
public import proofs.«01_k».proof.Proof.Math.Slots
public import Idealize.ShloMosaic.Lib.Tactic.CleanTypes

@[expose] public section

noncomputable section

namespace Cert.ReferenceIdeal.Val

open Idealize.ShloMosaic Idealize.SL.Sem Idealize.ShloMosaic.StableHlo Cert.ReferenceIdeal Cert.ReferenceIdeal.Gen Cert.Math

set_option maxHeartbeats 4000000
set_option maxRecDepth 100000

/- The chunks: the key, the split's counters and result, the 512×256 counters, the uniform draws. -/
def mA1 (d : Dev nD) : List Op := (main0 d).1.take 9
def mA2 (d : Dev nD) : List Op := ((main0 d).1.drop 9).take 1
def sA : List Op := splitL.1.take 13
def sB1 : List Op := (splitL.1.drop 235).take 2
def sB2 : List Op := splitL.1.drop 237
def mC (d : Dev nD) : List Op := ((main0 d).1.drop 248).take 24
def mD (d : Dev nD) : List Op := (main0 d).1.drop 494

theorem main0_cut (d : Dev nD) :
    (main0 d).1 = mA1 d ++ (mA2 d ++ (sA ++ (tfA.1 ++ (sB1 ++ (sB2 ++ (mC d ++ (tfB.1 ++ mD d))))))) := by rfl

/- The erf_inv chunks. -/
def eA (d : Dev nD) : List Op := (main1 d).1.take 11
def eB (d : Dev nD) : List Op := (main1 d).1.drop 11

theorem main1_cut (d : Dev nD) : (main1 d).1 = eA d ++ eB d := by rfl

variable (d : Dev nD) (V : Val)

/-- The uniform draws. -/
theorem mD_v43 : after (mD d) V (no_index (Proc.devRef .tc main_v43)) =
    fun (i : S512x256.Idx) => draw (wdS512x256 (V (Proc.devRef .tc main_v29_0)) i ^^^ wdS512x256 (V (Proc.devRef .tc main_v29_1)) i) := by
  after_reads_simp
  try simp -implicitDefEqProofs only [StableHlo.TRef.toBuf, StableHlo.TRef.ofBuf, cast_cast, cast_eq]
  funext i
  simp only [addi, xori, ori, hshli, hshrui, bcast0, constantI, IntOp.addi, IntOp.xori, IntOp.ori, maximumf, addf, mulf, subf,
    bitcastToFloat, constant, draw, frac]
  try rfl

theorem mD_v47 : after (mD d) V (no_index (Proc.devRef .tc main_v47)) =
    fun (i : S512x256.Idx) => logTerm (draw (wdS512x256 (V (Proc.devRef .tc main_v29_0)) i ^^^ wdS512x256 (V (Proc.devRef .tc main_v29_1)) i)) := by
  after_reads_simp
  try simp -implicitDefEqProofs only [StableHlo.TRef.toBuf, StableHlo.TRef.ofBuf, cast_cast, cast_eq]
  funext i
  simp only [addi, xori, ori, hshli, hshrui, bcast0, constantI, IntOp.addi, IntOp.xori, IntOp.ori, maximumf, addf, mulf, subf,
    bitcastToFloat, constant, draw, frac, Host.negf, Host.log1p, logTerm]
  try rfl

def fdS512x256 (x : (⟨S512x256, .f32⟩ : BufTy).Contents (Elt Ideal)) (i : S512x256.Idx) : EReal := x i
def bdS512x256 (x : (⟨S512x256, .i1⟩ : BufTy).Contents (Elt Ideal)) (i : S512x256.Idx) : BitVec 1 := x i

theorem eA_v49 : after (eA d) V (no_index (Proc.devRef .tc main_v49)) =
    fun (i : S512x256.Idx) => near (fdS512x256 (V (Proc.devRef .tc main_v47)) i) := by
  after_reads_simp
  try simp -implicitDefEqProofs only [StableHlo.TRef.toBuf, StableHlo.TRef.ofBuf, cast_cast, cast_eq]
  funext i
  simp only [bcast0, cmpf, constant, near, fdS512x256]
  try rfl

theorem eA_v55 : after (eA d) V (no_index (Proc.devRef .tc main_v55)) =
    fun (i : S512x256.Idx) => arg (fdS512x256 (V (Proc.devRef .tc main_v47)) i) := by
  after_reads_simp
  try simp -implicitDefEqProofs only [StableHlo.TRef.toBuf, StableHlo.TRef.ofBuf, cast_cast, cast_eq]
  funext i
  simp only [bcast0, cmpf, constant, near, fdS512x256, select, subf, Host.sqrt, arg]
  try rfl

theorem eB_v85 : after (eB d) V (no_index (Proc.devRef .tc main_v85)) =
    fun (i : S512x256.Idx) => poly7 (bdS512x256 (V (Proc.devRef .tc main_v49)) i) (fdS512x256 (V (Proc.devRef .tc main_v55)) i) := by
  after_reads_simp
  try simp -implicitDefEqProofs only [StableHlo.TRef.toBuf, StableHlo.TRef.ofBuf, cast_cast, cast_eq]
  funext i
  simp only [bcast0, constant, fdS512x256, bdS512x256, select, addf, mulf, id, poly7, hstep]
  try rfl

theorem eB_v86 : after (eB d) V (no_index (Proc.devRef .tc main_v86)) =
    fun (i : S512x256.Idx) => pick (bdS512x256 (V (Proc.devRef .tc main_v49)) i) (c 0x3FC02E2F#32) (c 0x40354F7E#32) := by
  after_reads_simp
  try simp -implicitDefEqProofs only [StableHlo.TRef.toBuf, StableHlo.TRef.ofBuf, cast_cast, cast_eq]
  funext i
  simp only [bcast0, constant, fdS512x256, bdS512x256, select]
  try rfl

theorem main2_v98 : after (main2 d).1 V (no_index (Proc.devRef .tc main_v98)) =
    fun (i : S512x256.Idx) => c 0x3FB504F3#32 * pick (Ideal.cmp .oeq (max (fdS512x256 (V (Proc.devRef .tc main_v43)) i) (-(fdS512x256 (V (Proc.devRef .tc main_v43)) i))) (c 0x3F800000#32))
      (fdS512x256 (V (Proc.devRef .tc main_v43)) i * c 0x7F800000#32)
      ((fdS512x256 (V (Proc.devRef .tc main_v86)) i + fdS512x256 (V (Proc.devRef .tc main_v85)) i * fdS512x256 (V (Proc.devRef .tc main_v55)) i)
        * fdS512x256 (V (Proc.devRef .tc main_v43)) i) := by
  after_reads_simp
  try simp -implicitDefEqProofs only [StableHlo.TRef.toBuf, StableHlo.TRef.ofBuf, cast_cast, cast_eq]
  funext i
  simp only [bcast0, constant, fdS512x256, cmpf, Host.absf, select, addf, mulf, id]
  try rfl

end Cert.ReferenceIdeal.Val

end
-- ==== Proof.Ref.Keys.lean ====
/- What the reference's key split and its counters hold. -/
module

public import proofs.«01_k».proof.Proof.Ref.Reads

@[expose] public section

noncomputable section

namespace Cert.ReferenceIdeal.Val

open Idealize.ShloMosaic Idealize.SL.Sem Idealize.ShloMosaic.StableHlo Cert.ReferenceIdeal Cert.ReferenceIdeal.Gen Cert.Math

set_option maxHeartbeats 4000000
set_option maxRecDepth 100000

variable (d : Dev nD) (V : Val)

/-- The third of the split's counters. -/
def two : S3.Idx := fun a => ⟨2, by fin_cases a; decide⟩

/- The key is (0, 42). -/
theorem mA1_v2 : after (mA1 d) V (no_index (Proc.devRef .tc main_v2)) = fun (_ : S1.Idx) => 0#32 := by
  after_reads_simp
  try simp -implicitDefEqProofs only [StableHlo.TRef.toBuf, StableHlo.TRef.ofBuf, cast_cast, cast_eq]
  rfl

theorem mA1_v5 : after (mA1 d) V (no_index (Proc.devRef .tc main_v5)) = fun (_ : S1.Idx) => 42#32 := by
  after_reads_simp
  try simp -implicitDefEqProofs only [StableHlo.TRef.toBuf, StableHlo.TRef.ofBuf, cast_cast, cast_eq]
  funext i
  simp only [bcast0, id, andi, constantI, IntOp.andi]
  decide

def wd1 (x : (⟨S1, .i32⟩ : BufTy).Contents (Elt Ideal)) : BitVec 32 := x fun a => ⟨0, by fin_cases a; decide⟩

theorem key_k0 : wv (after sA (after (mA2 d) V) (no_index (Proc.devRef .tc main_call0_v1))) = wd1 (V (Proc.devRef .tc main_v2)) := by
  after_reads_simp
  try simp -implicitDefEqProofs only [StableHlo.TRef.toBuf, StableHlo.TRef.ofBuf, cast_cast, cast_eq]
  exact congrArg (V (Proc.devRef .tc main_v2)) (funext fun a => by fin_cases a; rfl)

theorem key_k1 : wv (after sA (after (mA2 d) V) (no_index (Proc.devRef .tc main_call0_v3))) = wd1 (V (Proc.devRef .tc main_v5)) := by
  after_reads_simp
  try simp -implicitDefEqProofs only [StableHlo.TRef.toBuf, StableHlo.TRef.ofBuf, cast_cast, cast_eq]
  exact congrArg (V (Proc.devRef .tc main_v5)) (funext fun a => by fin_cases a; rfl)

/- The third counter is 2, its high word 0. -/
theorem ctr_hi : wdS3 (after sA V (no_index (Proc.devRef .tc main_call0_v10))) two = 0#32 := by
  after_reads_simp
  try simp -implicitDefEqProofs only [StableHlo.TRef.toBuf, StableHlo.TRef.ofBuf, cast_cast, cast_eq]
  rfl

theorem ctr_lo : wdS3 (after sA V (no_index (Proc.devRef .tc main_call0_v9))) two = 2#32 := by
  after_reads_simp
  try simp -implicitDefEqProofs only [StableHlo.TRef.toBuf, StableHlo.TRef.ofBuf, cast_cast, cast_eq]
  rfl

/- The third key's words. -/
def wd31 (x : (⟨S3x1, .i32⟩ : BufTy).Contents (Elt Ideal)) : BitVec 32 := x fun a => ⟨![2, 0] a, by fin_cases a <;> decide⟩

theorem sB1_v12 : wd31 (after sB1 V (no_index (Proc.devRef .tc main_call0_v12))) = wdS3 (V (Proc.devRef .tc main_call0_v11_0)) two := by
  after_reads_simp
  try simp -implicitDefEqProofs only [StableHlo.TRef.toBuf, StableHlo.TRef.ofBuf, cast_cast, cast_eq]
  exact congrArg (V (Proc.devRef .tc main_call0_v11_0)) (funext fun a => by fin_cases a <;> rfl)

theorem sB1_v13 : wd31 (after sB1 V (no_index (Proc.devRef .tc main_call0_v13))) = wdS3 (V (Proc.devRef .tc main_call0_v11_1)) two := by
  after_reads_simp
  try simp -implicitDefEqProofs only [StableHlo.TRef.toBuf, StableHlo.TRef.ofBuf, cast_cast, cast_eq]
  exact congrArg (V (Proc.devRef .tc main_call0_v11_1)) (funext fun a => by fin_cases a <;> rfl)

theorem sub_k0 : wv (after (mC d) (after sB2 V) (no_index (Proc.devRef .tc main_v15))) = wd31 (V (Proc.devRef .tc main_call0_v12)) := by
  after_reads_simp
  try simp -implicitDefEqProofs only [StableHlo.TRef.toBuf, StableHlo.TRef.ofBuf, cast_cast, cast_eq]
  exact congrArg (V (Proc.devRef .tc main_call0_v12)) (funext fun a => by fin_cases a <;> rfl)

theorem sub_k1 : wv (after (mC d) (after sB2 V) (no_index (Proc.devRef .tc main_v17))) = wd31 (V (Proc.devRef .tc main_call0_v13)) := by
  after_reads_simp
  try simp -implicitDefEqProofs only [StableHlo.TRef.toBuf, StableHlo.TRef.ofBuf, cast_cast, cast_eq]
  exact congrArg (V (Proc.devRef .tc main_call0_v13)) (funext fun a => by fin_cases a <;> rfl)

/- The 512×256 counters: the row-major position, its high word 0. -/
theorem mC_v28 (i : S512x256.Idx) : wdS512x256 (after (mC d) V (no_index (Proc.devRef .tc main_v28))) i = 0#32 := by
  after_reads_simp
  try simp -implicitDefEqProofs only [StableHlo.TRef.toBuf, StableHlo.TRef.ofBuf, cast_cast, cast_eq]
  have h0 := (i 0).isLt
  have h1 := (i 1).isLt
  simp only [wdS512x256, trunci, Host.shrui, addi, muli, bcast0, constantI, iotaInDim, IntOp.addi, IntOp.muli, IntOp.shrui, if_pos (show (32#64).toNat < 64 by decide)]
  apply BitVec.eq_of_toNat_eq
  change (i 0).val < 512 at h0
  change (i 1).val < 256 at h1
  simp only [BitVec.toNat_setWidth, BitVec.ushiftRight_eq', BitVec.toNat_ushiftRight, BitVec.toNat_add, BitVec.toNat_mul, BitVec.toNat_ofNat, Nat.shiftRight_eq_div_pow, Nat.reducePow, Nat.reduceMod]
  omega

theorem mC_v27 (i : S512x256.Idx) : wdS512x256 (after (mC d) V (no_index (Proc.devRef .tc main_v27))) i = BitVec.ofNat 32 (256 * (i 0).val + (i 1).val) := by
  after_reads_simp
  try simp -implicitDefEqProofs only [StableHlo.TRef.toBuf, StableHlo.TRef.ofBuf, cast_cast, cast_eq]
  have h0 := (i 0).isLt
  have h1 := (i 1).isLt
  simp only [wdS512x256, trunci, Host.shrui, addi, muli, bcast0, constantI, iotaInDim, IntOp.addi, IntOp.muli]
  apply BitVec.eq_of_toNat_eq
  change (i 0).val < 512 at h0
  change (i 1).val < 256 at h1
  simp only [BitVec.toNat_setWidth, BitVec.toNat_add, BitVec.toNat_mul, BitVec.toNat_ofNat]
  omega

/-- The pattern the draw at `i` is made of. -/
def bitsAt (row col : ℕ) : BitVec 32 :=
  (hash 2465931498#32 255383827#32 0#32 (BitVec.ofNat 32 (256 * row + col))).1
    ^^^ (hash 2465931498#32 255383827#32 0#32 (BitVec.ofNat 32 (256 * row + col))).2

theorem after_k0 : wv (after (mC d) (after sB2 (after sB1 (after tfA.1 (after sA (after (mA2 d) (after (mA1 d) V)))))) (no_index (Proc.devRef .tc main_v15))) = 2465931498#32 := by
  rw [sub_k0, sB1_v12, tfA_out1]
  change (hash (wv _) (wv _) (wdS3 _ two) (wdS3 _ two)).1 = _
  rw [key_k0, key_k1, ctr_hi, ctr_lo, mA1_v2, mA1_v5]
  exact congrArg Prod.fst subkey

theorem after_k1 : wv (after (mC d) (after sB2 (after sB1 (after tfA.1 (after sA (after (mA2 d) (after (mA1 d) V)))))) (no_index (Proc.devRef .tc main_v17))) = 255383827#32 := by
  rw [sub_k1, sB1_v13, tfA_out2]
  change (hash (wv _) (wv _) (wdS3 _ two) (wdS3 _ two)).2 = _
  rw [key_k0, key_k1, ctr_hi, ctr_lo, mA1_v2, mA1_v5]
  exact congrArg Prod.snd subkey

theorem main0_v43 : after (main0 d).1 V (no_index (Proc.devRef .tc main_v43)) =
    fun (i : S512x256.Idx) => draw (bitsAt (i 0).val (i 1).val) := by
  rw [main0_cut]
  simp only [after_append]
  rw [mD_v43, tfB_out1, tfB_out2, after_k0, after_k1]
  generalize after sB2 (after sB1 (after tfA.1 (after sA (after (mA2 d) (after (mA1 d) V))))) = W
  funext i
  change draw ((hash 2465931498#32 255383827#32 (wdS512x256 (after (mC d) W (Proc.devRef .tc main_v28)) i) (wdS512x256 (after (mC d) W (Proc.devRef .tc main_v27)) i)).1 ^^^ (hash 2465931498#32 255383827#32 (wdS512x256 (after (mC d) W (Proc.devRef .tc main_v28)) i) (wdS512x256 (after (mC d) W (Proc.devRef .tc main_v27)) i)).2) = _
  rw [mC_v27, mC_v28, bitsAt]

theorem main0_v47 : after (main0 d).1 V (no_index (Proc.devRef .tc main_v47)) =
    fun (i : S512x256.Idx) => logTerm (draw (bitsAt (i 0).val (i 1).val)) := by
  rw [main0_cut]
  simp only [after_append]
  rw [mD_v47, tfB_out1, tfB_out2, after_k0, after_k1]
  generalize after sB2 (after sB1 (after tfA.1 (after sA (after (mA2 d) (after (mA1 d) V))))) = W
  funext i
  change logTerm (draw ((hash 2465931498#32 255383827#32 (wdS512x256 (after (mC d) W (Proc.devRef .tc main_v28)) i) (wdS512x256 (after (mC d) W (Proc.devRef .tc main_v27)) i)).1 ^^^ (hash 2465931498#32 255383827#32 (wdS512x256 (after (mC d) W (Proc.devRef .tc main_v28)) i) (wdS512x256 (after (mC d) W (Proc.devRef .tc main_v27)) i)).2)) = _
  rw [mC_v27, mC_v28, bitsAt]

/- What the second part leaves. -/
theorem eB_v55 : after (eB d) V (no_index (Proc.devRef .tc main_v55)) = V (Proc.devRef .tc main_v55) := by
  after_reads_simp

theorem main1_v43 : after (main1 d).1 V (no_index (Proc.devRef .tc main_v43)) = V (Proc.devRef .tc main_v43) := by
  after_reads_simp

/-- The inverse error function's part, on any draws. -/
theorem main12_v98 (x : S512x256.Idx → EReal) (h43 : V (Proc.devRef .tc main_v43) = x)
    (h47 : V (Proc.devRef .tc main_v47) = fun i => logTerm (x i)) :
    after (main2 d).1 (after (main1 d).1 V) (no_index (Proc.devRef .tc main_v98)) = fun (i : S512x256.Idx) => slotR (x i) := by
  rw [main2_v98, main1_v43, main1_cut, after_append, eB_v85, eB_v86, eB_v55, eA_v49, eA_v55, h43, h47]
  rfl

/-- The first result. -/
theorem main_v98_read : after (mainL d).1 V (no_index (Proc.devRef .tc main_v98)) =
    fun (i : S512x256.Idx) => slotR (draw (bitsAt (i 0).val (i 1).val)) := by
  unfold mainL
  rw [after_append, after_append]
  exact main12_v98 d _ _ (main0_v43 d V) (main0_v47 d V)

end Cert.ReferenceIdeal.Val

end
-- ==== Proof.Ref.Rest.lean ====
/- What the reference's second and third results hold, and that its arguments are kept. -/
module

public import proofs.«01_k».proof.Proof.Ref.Keys
public import Idealize.ShloMosaic.Lib.StableHlo.ReadAt

@[expose] public section

noncomputable section

namespace Cert.ReferenceIdeal.Val

open Idealize.ShloMosaic Idealize.SL.Sem Idealize.ShloMosaic.StableHlo Cert.ReferenceIdeal Cert.ReferenceIdeal.Gen Cert.Math

set_option maxHeartbeats 4000000
set_option maxRecDepth 100000

variable (d : Dev nD) (V : Val)

theorem main2_v101 (i : S512.Idx) : after (main2 d).1 V (Proc.devRef .tc main_v101) i = BitVec.ofNat 32 ((i 0).val / 64) := by
  after_reads_at

/-- The gather's row, where the index at that row is a small number. -/
theorem gather_row {α : Type} (x : S8x32x32.Idx → α) (idx : IVec S512x1 32) (n : Fin 512) (a b : Fin 32) (q : Fin 8)
    (hq : ∀ j : S512x1.Idx, (j 0).val = n.val → idx j = BitVec.ofNat 32 q.val) :
    Host.gather gather_S8x32x32_S512x1_S512x32x32_12_0_n_n_0_1_13232 x idx (ix3 n a b) = x (ix3 q a b) := by
  unfold Host.gather
  congr 1
  funext e
  apply Fin.ext
  match e with
  | ⟨0, _⟩ =>
    change min (idx _).toInt.toNat 7 + 0 + 0 = q.val
    rw [hq _ rfl]
    clear hq
    revert q
    decide
  | ⟨1, _⟩ =>
    change 0 + 0 + a.val = a.val
    omega
  | ⟨2, _⟩ =>
    change 0 + 0 + b.val = b.val
    omega

/-- The index of each row: the negative ones wrapped, none being negative. -/
theorem row_index (n : Fin 512) :
    Scalar.select (IntOp.cmpi .slt (BitVec.ofNat 32 (n.val / 64)) 0#32) (BitVec.ofNat 32 (n.val / 64) + 8#32) (BitVec.ofNat 32 (n.val / 64)) =
      BitVec.ofNat 32 (n.val / 64) := by
  revert n
  decide

theorem main2_v112 (i : S512x3x1024.Idx) : after (main2 d).1 V (Proc.devRef .tc main_v112) i =
    pick ((V (Proc.devRef .tc main_arg1) : S8x32x32.Idx → BitVec 1) (ix3 ⟨(i 0).val / 64, Nat.div_lt_of_lt_mul (i 0).isLt⟩ ⟨(i 2).val / 32, Nat.div_lt_of_lt_mul (i 2).isLt⟩ ⟨(i 2).val % 32, Nat.mod_lt _ (by decide)⟩))
      (c 0xC9742400#32) (c 0#32) := by
  after_reads_at
  refine congrArg (fun z => pick z (c 0xC9742400#32) (c 0#32)) (gather_row _ _ (i 0) ⟨(i 2).val / 32, Nat.div_lt_of_lt_mul (i 2).isLt⟩ ⟨(i 2).val % 32, Nat.mod_lt _ (by decide)⟩ ⟨(i 0).val / 64, Nat.div_lt_of_lt_mul (i 0).isLt⟩ ?_)
  · intro j hj
    have h : j 0 = i 0 := Fin.ext hj
    refine Eq.trans ?_ (row_index (i 0))
    rw [← h]
    simp only [bcast0]
    rfl

theorem keep_arg0 : after (mainL d).1 V (Proc.devRef .tc main_arg0) = V (Proc.devRef .tc main_arg0) := by
  after_reads_simp
theorem keep_arg1 : after (mainL d).1 V (Proc.devRef .tc main_arg1) = V (Proc.devRef .tc main_arg1) := by
  after_reads_simp
theorem keep_arg1' : after (main1 d).1 (after (main0 d).1 V) (Proc.devRef .tc main_arg1) = V (Proc.devRef .tc main_arg1) := by
  after_reads_simp

end Cert.ReferenceIdeal.Val

end
-- ==== Proof.Ref.Run.lean ====
/- The reference's run: its three results, its arguments and its counters at the end. -/
module

public import proofs.«01_k».proof.Proof.Ref.Rest

@[expose] public section

noncomputable section

namespace Cert.ReferenceIdeal.Val

open Idealize.ShloMosaic Idealize.SL.Sem Idealize.ShloMosaic.StableHlo Cert.ReferenceIdeal Cert.ReferenceIdeal.Gen Cert.Math

set_option maxHeartbeats 4000000
set_option maxRecDepth 100000

/-- An operation that touches TensorCore buffers only and allocates nothing. -/
abbrev Plain (op : Op) : Prop := op.bufs ⊆ tcRefs τ sig ∧ op.fresh = ∅

theorem where_plain (a b c φ) : (whereL a b c φ).1.Forall Plain := by
  unfold whereL
  simp [Plain]
  try repeat (first | rfl | refine ⟨rfl, ?_⟩)

theorem where1_plain (a b c φ) : (where1L a b c φ).1.Forall Plain := by
  unfold where1L
  simp [Plain]
  try repeat (first | rfl | refine ⟨rfl, ?_⟩)

theorem where2_plain (a b c φ) : (where2L a b c φ).1.Forall Plain := by
  unfold where2L
  simp [Plain]
  try repeat (first | rfl | refine ⟨rfl, ?_⟩)

theorem tfA0_plain : tfA0.1.Forall Plain := by
  unfold tfA0
  simp [Plain]
  try repeat (first | rfl | refine ⟨rfl, ?_⟩)

theorem tfA1_plain : tfA1.1.Forall Plain := by
  unfold tfA1
  simp [Plain]
  try repeat (first | rfl | refine ⟨rfl, ?_⟩)

theorem tfA2_plain : tfA2.1.Forall Plain := by
  unfold tfA2
  simp [Plain]
  try repeat (first | rfl | refine ⟨rfl, ?_⟩)

theorem tfA3_plain : tfA3.1.Forall Plain := by
  unfold tfA3
  simp [Plain]
  try repeat (first | rfl | refine ⟨rfl, ?_⟩)

theorem tfA_plain : tfA.1.Forall Plain := by
  unfold tfA
  exact List.forall_append.2 ⟨tfA0_plain, List.forall_append.2 ⟨tfA1_plain, List.forall_append.2 ⟨tfA2_plain, tfA3_plain⟩⟩⟩

theorem tfB0_plain : tfB0.1.Forall Plain := by
  unfold tfB0
  simp [Plain]
  try repeat (first | rfl | refine ⟨rfl, ?_⟩)

theorem tfB1_plain : tfB1.1.Forall Plain := by
  unfold tfB1
  simp [Plain]
  try repeat (first | rfl | refine ⟨rfl, ?_⟩)

theorem tfB2_plain : tfB2.1.Forall Plain := by
  unfold tfB2
  simp [Plain]
  try repeat (first | rfl | refine ⟨rfl, ?_⟩)

theorem tfB3_plain : tfB3.1.Forall Plain := by
  unfold tfB3
  simp [Plain]
  try repeat (first | rfl | refine ⟨rfl, ?_⟩)

theorem tfB_plain : tfB.1.Forall Plain := by
  unfold tfB
  exact List.forall_append.2 ⟨tfB0_plain, List.forall_append.2 ⟨tfB1_plain, List.forall_append.2 ⟨tfB2_plain, tfB3_plain⟩⟩⟩

theorem split_plain : (splitL).1.Forall Plain := by
  unfold splitL
  dsimp only
  repeat (first | exact trivial | with_reducible refine (List.forall_cons _ _ _).2 ⟨⟨by simp, rfl⟩, ?_⟩ | exact tfA_plain | refine List.forall_append.2 ⟨tfA_plain, ?_⟩)

theorem main0_plain (d : Dev nD) : (main0 d).1.Forall Plain := by
  unfold main0
  dsimp only
  repeat (first | exact trivial | with_reducible refine (List.forall_cons _ _ _).2 ⟨⟨by simp, rfl⟩, ?_⟩ | exact split_plain | exact tfB_plain | refine List.forall_append.2 ⟨split_plain, ?_⟩ | refine List.forall_append.2 ⟨tfB_plain, ?_⟩)

theorem main1_plain (d : Dev nD) : (main1 d).1.Forall Plain := by
  unfold main1
  dsimp only
  repeat (first | exact trivial | with_reducible refine (List.forall_cons _ _ _).2 ⟨⟨by simp, rfl⟩, ?_⟩ | exact where_plain _ _ _ _ | exact where1_plain _ _ _ _ | refine List.forall_append.2 ⟨where_plain _ _ _ _, ?_⟩ | refine List.forall_append.2 ⟨where1_plain _ _ _ _, ?_⟩)

theorem main2_plain (d : Dev nD) : (main2 d).1.Forall Plain := by
  unfold main2
  dsimp only
  repeat (first | exact trivial | with_reducible refine (List.forall_cons _ _ _).2 ⟨⟨by simp, rfl⟩, ?_⟩ | exact where_plain _ _ _ _ | exact where2_plain _ _ _ _ | refine List.forall_append.2 ⟨where_plain _ _ _ _, ?_⟩ | refine List.forall_append.2 ⟨where2_plain _ _ _ _, ?_⟩)

theorem mainL_plain (d : Dev nD) : (mainL d).1.Forall Plain := by
  unfold mainL
  exact List.forall_append.2 ⟨main0_plain d, List.forall_append.2 ⟨main1_plain d, main2_plain d⟩⟩

/-- What the three results hold at the end, over the arguments at the start: the scaled inverse error function of the
    draws, the batch of each row, the mask's fill. -/
def slotsV : S512x256.Idx → EReal := fun i => slotR (draw (bitsAt (i 0).val (i 1).val))
def bidxV : S512.Idx → BitVec 32 := fun i => BitVec.ofNat 32 ((i 0).val / 64)
def segV (mask : S8x32x32.Idx → BitVec 1) : S512x3x1024.Idx → EReal := fun i =>
  pick (mask (ix3 ⟨(i 0).val / 64, Nat.div_lt_of_lt_mul (i 0).isLt⟩ ⟨(i 2).val / 32, Nat.div_lt_of_lt_mul (i 2).isLt⟩
    ⟨(i 2).val % 32, Nat.mod_lt _ (by decide)⟩)) (c 0xC9742400#32) (c 0#32)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v98) = slotsV
      ∧ r.2.mem ((c.tc : Thread nD τ).loc main_v101) = bidxV
      ∧ r.2.mem ((c.tc : Thread nD τ).loc main_v112) = segV (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_seq (by decide) (by decide) (defs (F := Ideal)) (main (F := Ideal)) (fun d => (mainL d).1)
    (fun d => (mainL d).2) (fun d => List.Forall.imp (fun _ h => h.1) (mainL_plain d)) m ρ
    (fun d op h => (List.forall_iff_forall_mem.1 (mainL_plain d) op h).2)) ?_
  intro r h c
  refine ⟨?_, ?_, ?_, ?_, ?_⟩ <;> rw [h c]
  · exact main_v98_read c _
  · funext i
    exact (congrFun (by unfold mainL; rw [after_append, after_append]) i).trans (main2_v101 c _ i)
  · funext i
    refine (congrFun (by unfold mainL; rw [after_append, after_append]) i).trans ((main2_v112 c _ i).trans ?_)
    rw [keep_arg1']
    rfl
  · exact keep_arg0 c _
  · exact keep_arg1 c _

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c => ⟨(h c).2.2.2.1, (h c).2.2.2.2⟩, sem_eq_zero_of_no_sems (by decide) _⟩

end Cert.ReferenceIdeal.Val

end
-- ==== Proof.Ke.Claims.lean ====
/- The kernel's three results on the extended reals, and the claims of the kernel. -/
module

public import proofs.«01_k».proof.Defs
public import proofs.«01_k».proof.Proof.Ke.Main
public import proofs.«01_k».proof.Proof.Ke.Bits
public import proofs.«01_k».proof.Proof.Fu.Run
public import proofs.«01_k».proof.Proof.Ref.Run
public import Idealize.ShloMosaic.Lib.StableHlo.ReadAt

@[expose] public section

set_option maxRecDepth 16384

noncomputable section

namespace Cert.KernelIdeal.Val

open Idealize.ShloMosaic Idealize.SL.Sem Idealize.ShloMosaic.StableHlo Idealize.ShloMosaic.TcCoe Cert.Math Cert.KernelIdeal Cert.KernelIdeal.Gen Cert.KernelIdeal.Sc

/-- The three results, as functions of the mask. -/
def slotsV : S512x256.Idx → EReal := fun i =>
  slotR (draw ((Cert.Math.hash 2465931498#32 255383827#32 0#32 (BitVec.ofNat 32 (256 * (i 0).val + (i 1).val))).1
    ^^^ (Cert.Math.hash 2465931498#32 255383827#32 0#32 (BitVec.ofNat 32 (256 * (i 0).val + (i 1).val))).2))
def bidxV : S512.Idx → BitVec 32 := fun i => BitVec.ofNat 32 ((i 0).val / 64)
def segV (mask : S8x32x32.Idx → BitVec 1) : S512x3x1024.Idx → EReal := fun i =>
  pick (mask (ix3 ⟨(i 0).val / 64, Nat.div_lt_of_lt_mul (i 0).isLt⟩ ⟨(i 2).val / 32, Nat.div_lt_of_lt_mul (i 2).isLt⟩
    ⟨(i 2).val % 32, Nat.mod_lt _ (by decide)⟩)) (c 0xC9742400#32) (c 0#32)

/-- The first result: the TensorCore call's slots. -/
theorem slots_val : slotsF (F := Ideal) = slotsV := by
  funext i
  unfold slotsF slotsV
  rw [slots_eq, ← bits_eq i]
  rfl

/-- The second result: the TensorCore call's row, as a vector. -/
theorem bidx_val (m : (ℓ : Loc nD τ sig) → Buf (Elt Ideal) ℓ) (d : Dev nD) : bv m d = bidxV := by
  have e : V3 m d b1' = bidxF (F := Ideal) := V3_b1 m d
  unfold bv opC r4'
  generalize V3 m d = W at *
  funext i
  after_reads_at
  refine (congrFun e (ix2 0 (i 0))).trans ?_
  exact bidx_eq (ix2 0 (i 0))

/-- The host's lines before the calls: the mask as numbers. -/
theorem fv_read (m : (ℓ : Loc nD τ sig) → Buf (Elt Ideal) ℓ) (d : Dev nD) (b : Fin 8) (k : Fin 1024) :
    fv m d (vIdx b k) = FloatOps.uitofp (F := Ideal) .f32 ((m ((d.tc : Thread nD τ).loc main_arg1) : S8x32x32.Idx → BitVec 1)
      (ix3 b ⟨k.val / 32, by omega⟩ ⟨k.val % 32, by omega⟩)) := by
  unfold fv opA opB r1' V0
  after_reads_at

/-- The third result: the SparseCore call's, by the mask. -/
theorem seg_val (m : (ℓ : Loc nD τ sig) → Buf (Elt Ideal) ℓ) (d : Dev nD) :
    resOf d (fv m d) = segV (m ((d.tc : Thread nD τ).loc main_arg1)) := by
  funext y
  unfold resOf
  rw [fv_read]
  exact Cert.FusedIdeal.Val.fill_eq _

/-- The kernel's run on the extended reals: its results and its arguments at the end. -/
theorem run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ (fun r => ∀ d : Dev nD,
      r.2.mem ((d.tc : Thread nD τ).loc main_v2_0) = slotsV
      ∧ r.2.mem ((d.tc : Thread nD τ).loc main_v4) = bidxV
      ∧ r.2.mem ((d.tc : Thread nD τ).loc main_v3) = segV (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1)) := by
  refine (θ_run Cert.KernelIdeal.defs _ _).mono (fun r h d => ?_) (run_main (F := Ideal) m ρ)
  obtain ⟨h0, h1, h2, h3, h4⟩ := h.1 d
  exact ⟨h2.trans slots_val, h4.trans (bidx_val m d), h3.trans (seg_val m d), h0, h1⟩

end Cert.KernelIdeal.Val

namespace Cert.Proof.KernelClaims

open Idealize.ShloMosaic Idealize.SL.Sem

/-- The frame of the kernel on the extended reals. -/
theorem frame : Cert.quiescent_KernelIdeal (hKernelIdeal := Cert.KernelIdeal.Gen.facts) := fun m ρ _ =>
  (θ_run Cert.KernelIdeal.defs _ _).mono (fun _ h => ⟨fun d => ⟨(h.1 d).1, (h.1 d).2.1⟩, h.2⟩) (Cert.KernelIdeal.Sc.run_main (F := Ideal) m ρ)

/-- The `algebraic` claim of the kernel: all three results equal the reference's. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun _ => Cert.KernelIdeal.Val.slotsV, fun _ => Cert.KernelIdeal.Val.bidxV,
    fun d => Cert.KernelIdeal.Val.segV (m ((d.tc : Thread Cert.KernelIdeal.nD Cert.KernelIdeal.τ).loc Cert.KernelIdeal.main_arg1)), ?_, ?_⟩
  · exact Cert.KernelIdeal.Val.run m g
  · refine θ_run_mono (Cert.ReferenceIdeal.Val.run m' g') fun r h d => ?_
    obtain ⟨h0, h1, h2, h3, h4⟩ := h d
    refine ⟨h0, h1, h2.trans ?_, h3, h4⟩
    rw [(hm d).2]
    rfl

end Cert.Proof.KernelClaims

end
-- ==== Proof.Fu.Claims.lean ====
/- The fused kernel and the reference end with equal results on the extended reals. -/
module

public import proofs.«01_k».proof.Defs
public import proofs.«01_k».proof.Proof.Fu.Run
public import proofs.«01_k».proof.Proof.Ref.Run

@[expose] public section

noncomputable section

namespace Cert.Proof.FusedClaims

open Idealize.ShloMosaic Idealize.SL.Sem

/-- The `algebraic` claim of the fused kernel: all three results equal the reference's. -/
theorem algebraic : Cert.algebraic_FusedIdeal_ReferenceIdeal (hFusedIdeal := Cert.FusedIdeal.Gen.facts) (hReferenceIdeal := Cert.ReferenceIdeal.Gen.facts) := by
  intro m g m' g' _ hm
  refine ⟨fun _ => Cert.FusedIdeal.Val.slotsV, fun _ => Cert.FusedIdeal.Val.bidxV,
    fun d => Cert.FusedIdeal.Val.segV (m ((d.tc : Thread Cert.FusedIdeal.nD Cert.FusedIdeal.τ).loc Cert.FusedIdeal.main_arg1)), ?_, ?_⟩
  · refine θ_run_mono (θ_run_and (Cert.FusedIdeal.Val.run m g) (Cert.FusedIdeal.Gen.unchanged m g)) fun r h d => ?_
    exact ⟨(h.1 d).1, (h.1 d).2.1, (h.1 d).2.2, (h.2 d).1, (h.2 d).2⟩
  · refine θ_run_mono (Cert.ReferenceIdeal.Val.run m' g') fun r h d => ?_
    obtain ⟨h0, h1, h2, h3, h4⟩ := h d
    refine ⟨h0, h1, h2.trans ?_, h3, h4⟩
    rw [(hm d).2]
    rfl

end Cert.Proof.FusedClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Fused.Frame
public import proofs.«01_k».proof.Proof.Gen.FusedIdeal.Frame
public import proofs.«01_k».proof.Proof.Kb.Main
public import proofs.«01_k».proof.Proof.Ke.Claims
public import proofs.«01_k».proof.Proof.Fu.Claims

@[expose] public section

noncomputable section

namespace Cert.Proof

open Idealize.ShloMosaic Idealize.SL.Sem

/-- The frame of the kernel on the bits: it ends, its arguments unchanged and every counter at zero. -/
theorem kernel_frame : Cert.quiescent_Kernel (hKernel := Cert.Kernel.Gen.facts) := fun m ρ _ =>
  (θ_run Cert.Kernel.defs _ _).mono (fun _ h => ⟨fun d => ⟨(h.1 d).1, (h.1 d).2.1⟩, h.2⟩) (Cert.Kernel.Sc.run_main (F := Bits) m ρ)

/-- Every claim of the certificate: for the kernel with the SparseCore call and for the fused one the frames, the
    idealization and the equality of all three results with the reference's. -/
theorem claim : Cert.Claim := ⟨Cert.Kernel.Gen.facts, Cert.KernelIdeal.Gen.facts, Cert.ReferenceIdeal.Gen.facts, Cert.Fused.Gen.facts, Cert.FusedIdeal.Gen.facts,
  kernel_frame,
  Cert.Proof.KernelClaims.frame,
  fun m g _ => Cert.ReferenceIdeal.Val.frame m g,
  fun m g _ => Cert.Fused.Gen.frame m g,
  fun m g _ => Cert.FusedIdeal.Gen.frame m g,
  trivial,
  Cert.Proof.KernelClaims.algebraic,
  trivial,
  Cert.Proof.FusedClaims.algebraic⟩

end Cert.Proof

end
